-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Matching (m : (ℓ : Loc Cert.Matching.nD Cert.Matching.τ Cert.Matching.sig) → Buf (Elt Bits) ℓ) : Prop :=
  True

def Pre_MatchingIdeal (m : (ℓ : Loc Cert.MatchingIdeal.nD Cert.MatchingIdeal.τ Cert.MatchingIdeal.sig) → Buf (Elt Ideal) ℓ) : Prop :=
  True

def Pre_MatchingReference (m : (ℓ : Loc Cert.MatchingReference.nD Cert.MatchingReference.τ Cert.MatchingReference.sig) → Buf (Elt Bits) ℓ) : Prop :=
  True

def Pre_MatchingReferenceIdeal (m : (ℓ : Loc Cert.MatchingReferenceIdeal.nD Cert.MatchingReferenceIdeal.τ Cert.MatchingReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Matching [hMatching : Cert.Matching.Facts] : Prop :=
  ∀ (m : (ℓ : Loc Cert.Matching.nD Cert.Matching.τ Cert.Matching.sig) → Buf (Elt Bits) ℓ) (g : Dev Cert.Matching.nD → PrngReg), Pre_Matching m →
    θ_run (Cert.Matching.defs (F := Bits)) (onTc (τ := Cert.Matching.τ) (Cert.Matching.main (F := Bits))) ⟨m, fun _ => 0, g⟩ (fun r => (∀ c : Dev Cert.Matching.nD,
      r.2.mem ((c.tc : Thread Cert.Matching.nD Cert.Matching.τ).loc Cert.Matching.main_arg0) = m ((c.tc : Thread Cert.Matching.nD Cert.Matching.τ).loc Cert.Matching.main_arg0)
      ∧ r.2.mem ((c.tc : Thread Cert.Matching.nD Cert.Matching.τ).loc Cert.Matching.main_arg1) = m ((c.tc : Thread Cert.Matching.nD Cert.Matching.τ).loc Cert.Matching.main_arg1)
      ∧ r.2.mem ((c.tc : Thread Cert.Matching.nD Cert.Matching.τ).loc Cert.Matching.main_arg2) = m ((c.tc : Thread Cert.Matching.nD Cert.Matching.τ).loc Cert.Matching.main_arg2)
      ∧ r.2.mem ((c.tc : Thread Cert.Matching.nD Cert.Matching.τ).loc Cert.Matching.main_arg3) = m ((c.tc : Thread Cert.Matching.nD Cert.Matching.τ).loc Cert.Matching.main_arg3)
      ∧ r.2.mem ((c.tc : Thread Cert.Matching.nD Cert.Matching.τ).loc Cert.Matching.main_arg4) = m ((c.tc : Thread Cert.Matching.nD Cert.Matching.τ).loc Cert.Matching.main_arg4)
      ∧ r.2.mem ((c.tc : Thread Cert.Matching.nD Cert.Matching.τ).loc Cert.Matching.main_arg5) = m ((c.tc : Thread Cert.Matching.nD Cert.Matching.τ).loc Cert.Matching.main_arg5)
      ∧ r.2.mem ((c.tc : Thread Cert.Matching.nD Cert.Matching.τ).loc Cert.Matching.main_arg6) = m ((c.tc : Thread Cert.Matching.nD Cert.Matching.τ).loc Cert.Matching.main_arg6))
      ∧ r.2.sem = fun _ => 0)

def quiescent_MatchingIdeal [hMatchingIdeal : Cert.MatchingIdeal.Facts] : Prop :=
  ∀ (m : (ℓ : Loc Cert.MatchingIdeal.nD Cert.MatchingIdeal.τ Cert.MatchingIdeal.sig) → Buf (Elt Ideal) ℓ) (g : Dev Cert.MatchingIdeal.nD → PrngReg), Pre_MatchingIdeal m →
    θ_run (Cert.MatchingIdeal.defs (F := Ideal)) (onTc (τ := Cert.MatchingIdeal.τ) (Cert.MatchingIdeal.main (F := Ideal))) ⟨m, fun _ => 0, g⟩ (fun r => (∀ c : Dev Cert.MatchingIdeal.nD,
      r.2.mem ((c.tc : Thread Cert.MatchingIdeal.nD Cert.MatchingIdeal.τ).loc Cert.MatchingIdeal.main_arg0) = m ((c.tc : Thread Cert.MatchingIdeal.nD Cert.MatchingIdeal.τ).loc Cert.MatchingIdeal.main_arg0)
      ∧ r.2.mem ((c.tc : Thread Cert.MatchingIdeal.nD Cert.MatchingIdeal.τ).loc Cert.MatchingIdeal.main_arg1) = m ((c.tc : Thread Cert.MatchingIdeal.nD Cert.MatchingIdeal.τ).loc Cert.MatchingIdeal.main_arg1)
      ∧ r.2.mem ((c.tc : Thread Cert.MatchingIdeal.nD Cert.MatchingIdeal.τ).loc Cert.MatchingIdeal.main_arg2) = m ((c.tc : Thread Cert.MatchingIdeal.nD Cert.MatchingIdeal.τ).loc Cert.MatchingIdeal.main_arg2)
      ∧ r.2.mem ((c.tc : Thread Cert.MatchingIdeal.nD Cert.MatchingIdeal.τ).loc Cert.MatchingIdeal.main_arg3) = m ((c.tc : Thread Cert.MatchingIdeal.nD Cert.MatchingIdeal.τ).loc Cert.MatchingIdeal.main_arg3)
      ∧ r.2.mem ((c.tc : Thread Cert.MatchingIdeal.nD Cert.MatchingIdeal.τ).loc Cert.MatchingIdeal.main_arg4) = m ((c.tc : Thread Cert.MatchingIdeal.nD Cert.MatchingIdeal.τ).loc Cert.MatchingIdeal.main_arg4)
      ∧ r.2.mem ((c.tc : Thread Cert.MatchingIdeal.nD Cert.MatchingIdeal.τ).loc Cert.MatchingIdeal.main_arg5) = m ((c.tc : Thread Cert.MatchingIdeal.nD Cert.MatchingIdeal.τ).loc Cert.MatchingIdeal.main_arg5)
      ∧ r.2.mem ((c.tc : Thread Cert.MatchingIdeal.nD Cert.MatchingIdeal.τ).loc Cert.MatchingIdeal.main_arg6) = m ((c.tc : Thread Cert.MatchingIdeal.nD Cert.MatchingIdeal.τ).loc Cert.MatchingIdeal.main_arg6))
      ∧ r.2.sem = fun _ => 0)

def quiescent_MatchingReference [hMatchingReference : Cert.MatchingReference.Facts] : Prop :=
  ∀ (m : (ℓ : Loc Cert.MatchingReference.nD Cert.MatchingReference.τ Cert.MatchingReference.sig) → Buf (Elt Bits) ℓ) (g : Dev Cert.MatchingReference.nD → PrngReg), Pre_MatchingReference m →
    θ_run (Cert.MatchingReference.defs (F := Bits)) (onTc (τ := Cert.MatchingReference.τ) (Cert.MatchingReference.main (F := Bits))) ⟨m, fun _ => 0, g⟩ (fun r => (∀ c : Dev Cert.MatchingReference.nD,
      r.2.mem ((c.tc : Thread Cert.MatchingReference.nD Cert.MatchingReference.τ).loc Cert.MatchingReference.main_arg0) = m ((c.tc : Thread Cert.MatchingReference.nD Cert.MatchingReference.τ).loc Cert.MatchingReference.main_arg0)
      ∧ r.2.mem ((c.tc : Thread Cert.MatchingReference.nD Cert.MatchingReference.τ).loc Cert.MatchingReference.main_arg1) = m ((c.tc : Thread Cert.MatchingReference.nD Cert.MatchingReference.τ).loc Cert.MatchingReference.main_arg1)
      ∧ r.2.mem ((c.tc : Thread Cert.MatchingReference.nD Cert.MatchingReference.τ).loc Cert.MatchingReference.main_arg2) = m ((c.tc : Thread Cert.MatchingReference.nD Cert.MatchingReference.τ).loc Cert.MatchingReference.main_arg2)
      ∧ r.2.mem ((c.tc : Thread Cert.MatchingReference.nD Cert.MatchingReference.τ).loc Cert.MatchingReference.main_arg3) = m ((c.tc : Thread Cert.MatchingReference.nD Cert.MatchingReference.τ).loc Cert.MatchingReference.main_arg3)
      ∧ r.2.mem ((c.tc : Thread Cert.MatchingReference.nD Cert.MatchingReference.τ).loc Cert.MatchingReference.main_arg4) = m ((c.tc : Thread Cert.MatchingReference.nD Cert.MatchingReference.τ).loc Cert.MatchingReference.main_arg4)
      ∧ r.2.mem ((c.tc : Thread Cert.MatchingReference.nD Cert.MatchingReference.τ).loc Cert.MatchingReference.main_arg5) = m ((c.tc : Thread Cert.MatchingReference.nD Cert.MatchingReference.τ).loc Cert.MatchingReference.main_arg5)
      ∧ r.2.mem ((c.tc : Thread Cert.MatchingReference.nD Cert.MatchingReference.τ).loc Cert.MatchingReference.main_arg6) = m ((c.tc : Thread Cert.MatchingReference.nD Cert.MatchingReference.τ).loc Cert.MatchingReference.main_arg6))
      ∧ r.2.sem = fun _ => 0)

def quiescent_MatchingReferenceIdeal [hMatchingReferenceIdeal : Cert.MatchingReferenceIdeal.Facts] : Prop :=
  ∀ (m : (ℓ : Loc Cert.MatchingReferenceIdeal.nD Cert.MatchingReferenceIdeal.τ Cert.MatchingReferenceIdeal.sig) → Buf (Elt Ideal) ℓ) (g : Dev Cert.MatchingReferenceIdeal.nD → PrngReg), Pre_MatchingReferenceIdeal m →
    θ_run (Cert.MatchingReferenceIdeal.defs (F := Ideal)) (onTc (τ := Cert.MatchingReferenceIdeal.τ) (Cert.MatchingReferenceIdeal.main (F := Ideal))) ⟨m, fun _ => 0, g⟩ (fun r => (∀ c : Dev Cert.MatchingReferenceIdeal.nD,
      r.2.mem ((c.tc : Thread Cert.MatchingReferenceIdeal.nD Cert.MatchingReferenceIdeal.τ).loc Cert.MatchingReferenceIdeal.main_arg0) = m ((c.tc : Thread Cert.MatchingReferenceIdeal.nD Cert.MatchingReferenceIdeal.τ).loc Cert.MatchingReferenceIdeal.main_arg0)
      ∧ r.2.mem ((c.tc : Thread Cert.MatchingReferenceIdeal.nD Cert.MatchingReferenceIdeal.τ).loc Cert.MatchingReferenceIdeal.main_arg1) = m ((c.tc : Thread Cert.MatchingReferenceIdeal.nD Cert.MatchingReferenceIdeal.τ).loc Cert.MatchingReferenceIdeal.main_arg1)
      ∧ r.2.mem ((c.tc : Thread Cert.MatchingReferenceIdeal.nD Cert.MatchingReferenceIdeal.τ).loc Cert.MatchingReferenceIdeal.main_arg2) = m ((c.tc : Thread Cert.MatchingReferenceIdeal.nD Cert.MatchingReferenceIdeal.τ).loc Cert.MatchingReferenceIdeal.main_arg2)
      ∧ r.2.mem ((c.tc : Thread Cert.MatchingReferenceIdeal.nD Cert.MatchingReferenceIdeal.τ).loc Cert.MatchingReferenceIdeal.main_arg3) = m ((c.tc : Thread Cert.MatchingReferenceIdeal.nD Cert.MatchingReferenceIdeal.τ).loc Cert.MatchingReferenceIdeal.main_arg3)
      ∧ r.2.mem ((c.tc : Thread Cert.MatchingReferenceIdeal.nD Cert.MatchingReferenceIdeal.τ).loc Cert.MatchingReferenceIdeal.main_arg4) = m ((c.tc : Thread Cert.MatchingReferenceIdeal.nD Cert.MatchingReferenceIdeal.τ).loc Cert.MatchingReferenceIdeal.main_arg4)
      ∧ r.2.mem ((c.tc : Thread Cert.MatchingReferenceIdeal.nD Cert.MatchingReferenceIdeal.τ).loc Cert.MatchingReferenceIdeal.main_arg5) = m ((c.tc : Thread Cert.MatchingReferenceIdeal.nD Cert.MatchingReferenceIdeal.τ).loc Cert.MatchingReferenceIdeal.main_arg5)
      ∧ r.2.mem ((c.tc : Thread Cert.MatchingReferenceIdeal.nD Cert.MatchingReferenceIdeal.τ).loc Cert.MatchingReferenceIdeal.main_arg6) = m ((c.tc : Thread Cert.MatchingReferenceIdeal.nD Cert.MatchingReferenceIdeal.τ).loc Cert.MatchingReferenceIdeal.main_arg6))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_2)) (v2 : (c : Dev Cert.KernelIdeal.nD) → Buf (Elt Ideal) ((c.tc : Thread Cert.KernelIdeal.nD Cert.KernelIdeal.τ).loc Cert.KernelIdeal.main_v23_3)) (v3 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_2) = v1 c
          ∧ r.2.mem ((c.tc : Thread Cert.KernelIdeal.nD Cert.KernelIdeal.τ).loc Cert.KernelIdeal.main_v23_3) = v2 c
          ∧ r.2.mem ((c.tc : Thread Cert.KernelIdeal.nD Cert.KernelIdeal.τ).loc Cert.KernelIdeal.main_v23_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_values) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Matching_MatchingIdeal : Prop :=
  True

def algebraic_MatchingIdeal_MatchingReferenceIdeal [hMatchingIdeal : Cert.MatchingIdeal.Facts] [hMatchingReferenceIdeal : Cert.MatchingReferenceIdeal.Facts] : Prop :=
  ∀ (m : (ℓ : Loc Cert.MatchingIdeal.nD Cert.MatchingIdeal.τ Cert.MatchingIdeal.sig) → Buf (Elt Ideal) ℓ) (g : Dev Cert.MatchingIdeal.nD → PrngReg)
    (m' : (ℓ : Loc Cert.MatchingReferenceIdeal.nD Cert.MatchingReferenceIdeal.τ Cert.MatchingReferenceIdeal.sig) → Buf (Elt Ideal) ℓ) (g' : Dev Cert.MatchingReferenceIdeal.nD → PrngReg), Pre_MatchingIdeal m →
    (∀ c : Dev Cert.MatchingIdeal.nD,
      m' ((c.tc : Thread Cert.MatchingReferenceIdeal.nD Cert.MatchingReferenceIdeal.τ).loc Cert.MatchingReferenceIdeal.main_arg0) = m ((c.tc : Thread Cert.MatchingIdeal.nD Cert.MatchingIdeal.τ).loc Cert.MatchingIdeal.main_arg0)
      ∧ m' ((c.tc : Thread Cert.MatchingReferenceIdeal.nD Cert.MatchingReferenceIdeal.τ).loc Cert.MatchingReferenceIdeal.main_arg1) = m ((c.tc : Thread Cert.MatchingIdeal.nD Cert.MatchingIdeal.τ).loc Cert.MatchingIdeal.main_arg1)
      ∧ m' ((c.tc : Thread Cert.MatchingReferenceIdeal.nD Cert.MatchingReferenceIdeal.τ).loc Cert.MatchingReferenceIdeal.main_arg2) = m ((c.tc : Thread Cert.MatchingIdeal.nD Cert.MatchingIdeal.τ).loc Cert.MatchingIdeal.main_arg2)
      ∧ m' ((c.tc : Thread Cert.MatchingReferenceIdeal.nD Cert.MatchingReferenceIdeal.τ).loc Cert.MatchingReferenceIdeal.main_arg3) = m ((c.tc : Thread Cert.MatchingIdeal.nD Cert.MatchingIdeal.τ).loc Cert.MatchingIdeal.main_arg3)
      ∧ m' ((c.tc : Thread Cert.MatchingReferenceIdeal.nD Cert.MatchingReferenceIdeal.τ).loc Cert.MatchingReferenceIdeal.main_arg4) = m ((c.tc : Thread Cert.MatchingIdeal.nD Cert.MatchingIdeal.τ).loc Cert.MatchingIdeal.main_arg4)
      ∧ m' ((c.tc : Thread Cert.MatchingReferenceIdeal.nD Cert.MatchingReferenceIdeal.τ).loc Cert.MatchingReferenceIdeal.main_arg5) = m ((c.tc : Thread Cert.MatchingIdeal.nD Cert.MatchingIdeal.τ).loc Cert.MatchingIdeal.main_arg5)
      ∧ m' ((c.tc : Thread Cert.MatchingReferenceIdeal.nD Cert.MatchingReferenceIdeal.τ).loc Cert.MatchingReferenceIdeal.main_arg6) = m ((c.tc : Thread Cert.MatchingIdeal.nD Cert.MatchingIdeal.τ).loc Cert.MatchingIdeal.main_arg6)) →
    ∃ (v0 : (c : Dev Cert.MatchingIdeal.nD) → Buf (Elt Ideal) ((c.tc : Thread Cert.MatchingIdeal.nD Cert.MatchingIdeal.τ).loc Cert.MatchingIdeal.main_v41)),
      θ_run (Cert.MatchingIdeal.defs (F := Ideal)) (onTc (τ := Cert.MatchingIdeal.τ) (Cert.MatchingIdeal.main (F := Ideal))) ⟨m, fun _ => 0, g⟩ (fun r => ∀ c : Dev Cert.MatchingIdeal.nD,
          r.2.mem ((c.tc : Thread Cert.MatchingIdeal.nD Cert.MatchingIdeal.τ).loc Cert.MatchingIdeal.main_v41) = v0 c
          ∧ r.2.mem ((c.tc : Thread Cert.MatchingIdeal.nD Cert.MatchingIdeal.τ).loc Cert.MatchingIdeal.main_arg0) = m ((c.tc : Thread Cert.MatchingIdeal.nD Cert.MatchingIdeal.τ).loc Cert.MatchingIdeal.main_arg0)
          ∧ r.2.mem ((c.tc : Thread Cert.MatchingIdeal.nD Cert.MatchingIdeal.τ).loc Cert.MatchingIdeal.main_arg1) = m ((c.tc : Thread Cert.MatchingIdeal.nD Cert.MatchingIdeal.τ).loc Cert.MatchingIdeal.main_arg1)
          ∧ r.2.mem ((c.tc : Thread Cert.MatchingIdeal.nD Cert.MatchingIdeal.τ).loc Cert.MatchingIdeal.main_arg2) = m ((c.tc : Thread Cert.MatchingIdeal.nD Cert.MatchingIdeal.τ).loc Cert.MatchingIdeal.main_arg2)
          ∧ r.2.mem ((c.tc : Thread Cert.MatchingIdeal.nD Cert.MatchingIdeal.τ).loc Cert.MatchingIdeal.main_arg3) = m ((c.tc : Thread Cert.MatchingIdeal.nD Cert.MatchingIdeal.τ).loc Cert.MatchingIdeal.main_arg3)
          ∧ r.2.mem ((c.tc : Thread Cert.MatchingIdeal.nD Cert.MatchingIdeal.τ).loc Cert.MatchingIdeal.main_arg4) = m ((c.tc : Thread Cert.MatchingIdeal.nD Cert.MatchingIdeal.τ).loc Cert.MatchingIdeal.main_arg4)
          ∧ r.2.mem ((c.tc : Thread Cert.MatchingIdeal.nD Cert.MatchingIdeal.τ).loc Cert.MatchingIdeal.main_arg5) = m ((c.tc : Thread Cert.MatchingIdeal.nD Cert.MatchingIdeal.τ).loc Cert.MatchingIdeal.main_arg5)
          ∧ r.2.mem ((c.tc : Thread Cert.MatchingIdeal.nD Cert.MatchingIdeal.τ).loc Cert.MatchingIdeal.main_arg6) = m ((c.tc : Thread Cert.MatchingIdeal.nD Cert.MatchingIdeal.τ).loc Cert.MatchingIdeal.main_arg6))
      ∧ θ_run (Cert.MatchingReferenceIdeal.defs (F := Ideal)) (onTc (τ := Cert.MatchingReferenceIdeal.τ) (Cert.MatchingReferenceIdeal.main (F := Ideal))) ⟨m', fun _ => 0, g'⟩ (fun r => ∀ c : Dev Cert.MatchingReferenceIdeal.nD,
          r.2.mem ((c.tc : Thread Cert.MatchingReferenceIdeal.nD Cert.MatchingReferenceIdeal.τ).loc Cert.MatchingReferenceIdeal.main_v64) = v0 c
          ∧ r.2.mem ((c.tc : Thread Cert.MatchingReferenceIdeal.nD Cert.MatchingReferenceIdeal.τ).loc Cert.MatchingReferenceIdeal.main_arg0) = m' ((c.tc : Thread Cert.MatchingReferenceIdeal.nD Cert.MatchingReferenceIdeal.τ).loc Cert.MatchingReferenceIdeal.main_arg0)
          ∧ r.2.mem ((c.tc : Thread Cert.MatchingReferenceIdeal.nD Cert.MatchingReferenceIdeal.τ).loc Cert.MatchingReferenceIdeal.main_arg1) = m' ((c.tc : Thread Cert.MatchingReferenceIdeal.nD Cert.MatchingReferenceIdeal.τ).loc Cert.MatchingReferenceIdeal.main_arg1)
          ∧ r.2.mem ((c.tc : Thread Cert.MatchingReferenceIdeal.nD Cert.MatchingReferenceIdeal.τ).loc Cert.MatchingReferenceIdeal.main_arg2) = m' ((c.tc : Thread Cert.MatchingReferenceIdeal.nD Cert.MatchingReferenceIdeal.τ).loc Cert.MatchingReferenceIdeal.main_arg2)
          ∧ r.2.mem ((c.tc : Thread Cert.MatchingReferenceIdeal.nD Cert.MatchingReferenceIdeal.τ).loc Cert.MatchingReferenceIdeal.main_arg3) = m' ((c.tc : Thread Cert.MatchingReferenceIdeal.nD Cert.MatchingReferenceIdeal.τ).loc Cert.MatchingReferenceIdeal.main_arg3)
          ∧ r.2.mem ((c.tc : Thread Cert.MatchingReferenceIdeal.nD Cert.MatchingReferenceIdeal.τ).loc Cert.MatchingReferenceIdeal.main_arg4) = m' ((c.tc : Thread Cert.MatchingReferenceIdeal.nD Cert.MatchingReferenceIdeal.τ).loc Cert.MatchingReferenceIdeal.main_arg4)
          ∧ r.2.mem ((c.tc : Thread Cert.MatchingReferenceIdeal.nD Cert.MatchingReferenceIdeal.τ).loc Cert.MatchingReferenceIdeal.main_arg5) = m' ((c.tc : Thread Cert.MatchingReferenceIdeal.nD Cert.MatchingReferenceIdeal.τ).loc Cert.MatchingReferenceIdeal.main_arg5)
          ∧ r.2.mem ((c.tc : Thread Cert.MatchingReferenceIdeal.nD Cert.MatchingReferenceIdeal.τ).loc Cert.MatchingReferenceIdeal.main_arg6) = m' ((c.tc : Thread Cert.MatchingReferenceIdeal.nD Cert.MatchingReferenceIdeal.τ).loc Cert.MatchingReferenceIdeal.main_arg6))

def Claim : Prop :=
  ∃ (hKernel : Cert.Kernel.Facts) (hKernelIdeal : Cert.KernelIdeal.Facts) (hReference : Cert.Reference.Facts) (hReferenceIdeal : Cert.ReferenceIdeal.Facts) (hMatching : Cert.Matching.Facts) (hMatchingIdeal : Cert.MatchingIdeal.Facts) (hMatchingReference : Cert.MatchingReference.Facts) (hMatchingReferenceIdeal : Cert.MatchingReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_Reference (hReference := hReference)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Matching (hMatching := hMatching)
    ∧ quiescent_MatchingIdeal (hMatchingIdeal := hMatchingIdeal)
    ∧ quiescent_MatchingReference (hMatchingReference := hMatchingReference)
    ∧ quiescent_MatchingReferenceIdeal (hMatchingReferenceIdeal := hMatchingReferenceIdeal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Matching_MatchingIdeal
    ∧ algebraic_MatchingIdeal_MatchingReferenceIdeal (hMatchingIdeal := hMatchingIdeal) (hMatchingReferenceIdeal := hMatchingReferenceIdeal)
-- ==== Pre_finite_arguments.lean ====
abbrev S256x64x3 : Shape := ⟨3, ![256, 64, 3]⟩
abbrev S256x64 : Shape := ⟨2, ![256, 64]⟩
abbrev S3x64 : Shape := ⟨2, ![3, 64]⟩
abbrev S64x256 : Shape := ⟨2, ![64, 256]⟩
abbrev S256 : Shape := ⟨1, ![256]⟩
abbrev S_ : Shape := ⟨0, ![]⟩

class Facts : Prop where
  bcast_S_S256x64x3 : S_.BroadcastsInDim S256x64x3 (![] : Fin 0 → Fin S256x64x3.rank)
  bcast_S_S3x64 : S_.BroadcastsInDim S3x64 (![] : Fin 0 → Fin S3x64.rank)
  bcast_S_S64x256 : S_.BroadcastsInDim S64x256 (![] : Fin 0 → Fin S64x256.rank)
  bcast_S_S256 : S_.BroadcastsInDim S256 (![] : Fin 0 → Fin S256.rank)

variable [Facts]

def fn {F : FTy → Type} [FloatOps F] (main_arg0 : FVec F S256x64x3 .f32) (main_arg1 : FVec F S256x64x3 .f32) (main_arg2 : IVec S256x64 1) (main_arg3 : IVec S256x64 1) (main_arg4 : FVec F S3x64 .f32) (main_arg5 : FVec F S64x256 .f32) (main_arg6 : FVec F S256 .f32) (main_arg7 : FVec F S_ .f32) : IVec S256x64x3 1 × IVec S256x64x3 1 × IVec S3x64 1 × IVec S64x256 1 × IVec S256 1 × IVec S_ 1 :=
  let main_v0 : FVec F S256x64x3 .f32 := Host.absf main_arg0
  let main_cst : FVec F S_ .f32 := constant S_ .f32 0x7F800000#32
  let main_v1 : FVec F S256x64x3 .f32 := broadcastInDim S256x64x3 ![] bcast_S_S256x64x3 main_cst
  let main_v2 : IVec S256x64x3 1 := cmpf .olt main_v0 main_v1
  let main_v3 : FVec F S256x64x3 .f32 := Host.absf main_arg1
  let main_cst_0 : FVec F S_ .f32 := constant S_ .f32 0x7F800000#32
  let main_v4 : FVec F S256x64x3 .f32 := broadcastInDim S256x64x3 ![] bcast_S_S256x64x3 main_cst_0
  let main_v5 : IVec S256x64x3 1 := cmpf .olt main_v3 main_v4
  let main_v6 : FVec F S3x64 .f32 := Host.absf main_arg4
  let main_cst_1 : FVec F S_ .f32 := constant S_ .f32 0x7F800000#32
  let main_v7 : FVec F S3x64 .f32 := broadcastInDim S3x64 ![] bcast_S_S3x64 main_cst_1
  let main_v8 : IVec S3x64 1 := cmpf .olt main_v6 main_v7
  let main_v9 : FVec F S64x256 .f32 := Host.absf main_arg5
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_v12 : FVec F S256 .f32 := Host.absf main_arg6
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S_ .f32 := Host.absf main_arg7
  let main_cst_4 : FVec F S_ .f32 := constant S_ .f32 0x7F800000#32
  let main_v16 : IVec S_ 1 := cmpf .olt main_v15 main_cst_4
  (main_v2, main_v5, main_v8, main_v11, main_v14, main_v16)
-- ==== Kernel.lean ====
abbrev S256x64x3 : Shape := ⟨3, ![256, 64, 3]⟩
abbrev S256x64 : Shape := ⟨2, ![256, 64]⟩
abbrev S3x64 : Shape := ⟨2, ![3, 64]⟩
abbrev S64x256 : Shape := ⟨2, ![64, 256]⟩
abbrev S256 : Shape := ⟨1, ![256]⟩
abbrev S_ : Shape := ⟨0, ![]⟩
abbrev S256x64x1 : Shape := ⟨3, ![256, 64, 1]⟩
abbrev S256x64x64 : Shape := ⟨3, ![256, 64, 64]⟩
abbrev S256x64x256 : Shape := ⟨3, ![256, 64, 256]⟩
abbrev S1x1x256 : Shape := ⟨3, ![1, 1, 256]⟩
abbrev S256x65x65 : Shape := ⟨3, ![256, 65, 65]⟩
abbrev S1x1 : Shape := ⟨2, ![1, 1]⟩
abbrev S256x3x64 : Shape := ⟨3, ![256, 3, 64]⟩
abbrev S256x3 : Shape := ⟨2, ![256, 3]⟩
abbrev S256x3x3 : Shape := ⟨3, ![256, 3, 3]⟩
abbrev S32x65x65 : Shape := ⟨3, ![32, 65, 65]⟩
abbrev S32x64 : Shape := ⟨2, ![32, 64]⟩
abbrev S32x3x64 : Shape := ⟨3, ![32, 3, 64]⟩
abbrev S32x3 : Shape := ⟨2, ![32, 3]⟩
abbrev S32x3x3 : Shape := ⟨3, ![32, 3, 3]⟩
abbrev S32x65 : Shape := ⟨2, ![32, 65]⟩
abbrev S32x1 : Shape := ⟨2, ![32, 1]⟩
abbrev S32x65x1 : Shape := ⟨3, ![32, 65, 1]⟩
abbrev S32x1x65 : Shape := ⟨3, ![32, 1, 65]⟩
abbrev S32 : Shape := ⟨1, ![32]⟩
abbrev S32x1x1 : Shape := ⟨3, ![32, 1, 1]⟩
abbrev S32x64x64 : Shape := ⟨3, ![32, 64, 64]⟩
abbrev S32x64x1 : Shape := ⟨3, ![32, 64, 1]⟩
abbrev S32x1x64 : Shape := ⟨3, ![32, 1, 64]⟩
abbrev S32x1x3 : Shape := ⟨3, ![32, 1, 3]⟩

abbrev nBuf : Space → Nat
  | .hbm => 46
  | .vmem => 18
  | .smem => 1
  | _ => 0

abbrev bufTy : (tb : Table) → Fin (tcTables nBuf tb) → BufTy
  | .hbm, ⟨0, _⟩ => ⟨S256x64x3, .f32⟩
  | .hbm, ⟨1, _⟩ => ⟨S256x64x3, .f32⟩
  | .hbm, ⟨2, _⟩ => ⟨S256x64, .i1⟩
  | .hbm, ⟨3, _⟩ => ⟨S256x64, .i1⟩
  | .hbm, ⟨4, _⟩ => ⟨S3x64, .f32⟩
  | .hbm, ⟨5, _⟩ => ⟨S64x256, .f32⟩
  | .hbm, ⟨6, _⟩ => ⟨S256, .f32⟩
  | .hbm, ⟨7, _⟩ => ⟨S_, .f32⟩
  | .hbm, ⟨8, _⟩ => ⟨S256x64x1, .i1⟩
  | .hbm, ⟨9, _⟩ => ⟨S256x64x64, .f32⟩
  | .hbm, ⟨10, _⟩ => ⟨S256x64x256, .f32⟩
  | .hbm, ⟨11, _⟩ => ⟨S1x1x256, .f32⟩
  | .hbm, ⟨12, _⟩ => ⟨S256x64x256, .f32⟩
  | .hbm, ⟨13, _⟩ => ⟨S256x64x256, .f32⟩
  | .hbm, ⟨14, _⟩ => ⟨S_, .f32⟩
  | .hbm, ⟨15, _⟩ => ⟨S_, .f32⟩
  | .hbm, ⟨16, _⟩ => ⟨S256x64x256, .i1⟩
  | .hbm, ⟨17, _⟩ => ⟨S256x64x256, .f32⟩
  | .hbm, ⟨18, _⟩ => ⟨S256x64x256, .f32⟩
  | .hbm, ⟨19, _⟩ => ⟨S256x64x1, .i1⟩
  | .hbm, ⟨20, _⟩ => ⟨S256x64x64, .f32⟩
  | .hbm, ⟨21, _⟩ => ⟨S256x64x256, .f32⟩
  | .hbm, ⟨22, _⟩ => ⟨S1x1x256, .f32⟩
  | .hbm, ⟨23, _⟩ => ⟨S256x64x256, .f32⟩
  | .hbm, ⟨24, _⟩ => ⟨S256x64x256, .f32⟩
  | .hbm, ⟨25, _⟩ => ⟨S_, .f32⟩
  | .hbm, ⟨26, _⟩ => ⟨S_, .f32⟩
  | .hbm, ⟨27, _⟩ => ⟨S256x64x256, .i1⟩
  | .hbm, ⟨28, _⟩ => ⟨S256x64x256, .f32⟩
  | .hbm, ⟨29, _⟩ => ⟨S256x64x256, .f32⟩
  | .hbm, ⟨30, _⟩ => ⟨S256x64x64, .f32⟩
  | .hbm, ⟨31, _⟩ => ⟨S_, .f32⟩
  | .hbm, ⟨32, _⟩ => ⟨S256x64x64, .f32⟩
  | .hbm, ⟨33, _⟩ => ⟨S256x64x64, .f32⟩
  | .hbm, ⟨34, _⟩ => ⟨S_, .i32⟩
  | .hbm, ⟨35, _⟩ => ⟨S_, .f32⟩
  | .hbm, ⟨36, _⟩ => ⟨S256x65x65, .f32⟩
  | .hbm, ⟨37, _⟩ => ⟨S256x64, .f32⟩
  | .hbm, ⟨38, _⟩ => ⟨S256x64, .f32⟩
  | .hbm, ⟨39, _⟩ => ⟨S1x1, .f32⟩
  | .hbm, ⟨40, _⟩ => ⟨S256x3x64, .f32⟩
  | .hbm, ⟨41, _⟩ => ⟨S256x3x64, .f32⟩
  | .hbm, ⟨42, _⟩ => ⟨S256x65x65, .f32⟩
  | .hbm, ⟨43, _⟩ => ⟨S256x3, .f32⟩
  | .hbm, ⟨44, _⟩ => ⟨S256x3x3, .f32⟩
  | .hbm, ⟨45, _⟩ => ⟨S256x3x3, .f32⟩
  | .local _ .vmem, ⟨0, _⟩ => ⟨S32x65x65, .f32⟩
  | .local _ .vmem, ⟨1, _⟩ => ⟨S32x65x65, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x3x64, .f32⟩
  | .local _ .vmem, ⟨7, _⟩ => ⟨S32x3x64, .f32⟩
  | .local _ .vmem, ⟨8, _⟩ => ⟨S32x3x64, .f32⟩
  | .local _ .vmem, ⟨9, _⟩ => ⟨S32x3x64, .f32⟩
  | .local _ .vmem, ⟨10, _⟩ => ⟨S32x65x65, .f32⟩
  | .local _ .vmem, ⟨11, _⟩ => ⟨S32x65x65, .f32⟩
  | .local _ .vmem, ⟨12, _⟩ => ⟨S32x3, .f32⟩
  | .local _ .vmem, ⟨13, _⟩ => ⟨S32x3, .f32⟩
  | .local _ .vmem, ⟨14, _⟩ => ⟨S32x3x3, .f32⟩
  | .local _ .vmem, ⟨15, _⟩ => ⟨S32x3x3, .f32⟩
  | .local _ .vmem, ⟨16, _⟩ => ⟨S32x3x3, .f32⟩
  | .local _ .vmem, ⟨17, _⟩ => ⟨S32x3x3, .f32⟩
  | .local _ .smem, ⟨0, _⟩ => ⟨S1x1, .f32⟩
  | _, _ => ⟨S256x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_call2_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_v23_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_24 : BitVec 32 := 0#32
  let c100_i32 : BitVec 32 := 100#32
  let v74 : BitVec 32 := Scalar.addi c0_i32_24 c100_i32
  let c1_i32 : BitVec 32 := 1#32
  ⟨c0_i32_24, v74, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x65x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x3x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x3x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x65x65 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x3x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x3x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference.lean ====
abbrev S256x64x3 : Shape := ⟨3, ![256, 64, 3]⟩
abbrev S256x64 : Shape := ⟨2, ![256, 64]⟩
abbrev S3x64 : Shape := ⟨2, ![3, 64]⟩
abbrev S64x256 : Shape := ⟨2, ![64, 256]⟩
abbrev S256 : Shape := ⟨1, ![256]⟩
abbrev S_ : Shape := ⟨0, ![]⟩
abbrev S256x64x1 : Shape := ⟨3, ![256, 64, 1]⟩
abbrev S256x64x64 : Shape := ⟨3, ![256, 64, 64]⟩
abbrev S256x64x256 : Shape := ⟨3, ![256, 64, 256]⟩
abbrev S1x1x256 : Shape := ⟨3, ![1, 1, 256]⟩
abbrev S256x64x65 : Shape := ⟨3, ![256, 64, 65]⟩
abbrev S256x1x65 : Shape := ⟨3, ![256, 1, 65]⟩
abbrev S256x65x65 : Shape := ⟨3, ![256, 65, 65]⟩
abbrev S256x1 : Shape := ⟨2, ![256, 1]⟩
abbrev S256x65 : Shape := ⟨2, ![256, 65]⟩
abbrev S256x65x1 : Shape := ⟨3, ![256, 65, 1]⟩
abbrev S256x1x1 : Shape := ⟨3, ![256, 1, 1]⟩
abbrev S256x1x64 : Shape := ⟨3, ![256, 1, 64]⟩
abbrev S256x4096 : Shape := ⟨2, ![256, 4096]⟩
abbrev S256x3 : Shape := ⟨2, ![256, 3]⟩
abbrev S256x3x1 : Shape := ⟨3, ![256, 3, 1]⟩
abbrev S1 : Shape := ⟨1, ![1]⟩
abbrev S1x1x1 : Shape := ⟨3, ![1, 1, 1]⟩
abbrev S256x3x3 : Shape := ⟨3, ![256, 3, 3]⟩

abbrev nBuf : Space → Nat
  | .hbm => 254
  | .vmem => 0
  | .smem => 0
  | _ => 0

abbrev hbmTy0_0 (i : Nat) : BufTy := match i % 128 with
  | 0 => ⟨S256x64x3, .f32⟩
  | 1 => ⟨S256x64x3, .f32⟩
  | 2 => ⟨S256x64, .i1⟩
  | 3 => ⟨S256x64, .i1⟩
  | 4 => ⟨S3x64, .f32⟩
  | 5 => ⟨S64x256, .f32⟩
  | 6 => ⟨S256, .f32⟩
  | 7 => ⟨S_, .f32⟩
  | 8 => ⟨S256x64x1, .i1⟩
  | 9 => ⟨S256x64x64, .f32⟩
  | 10 => ⟨S256x64x256, .f32⟩
  | 11 => ⟨S1x1x256, .f32⟩
  | 12 => ⟨S256x64x256, .f32⟩
  | 13 => ⟨S256x64x256, .f32⟩
  | 14 => ⟨S_, .f32⟩
  | 15 => ⟨S_, .f32⟩
  | 16 => ⟨S256x64x256, .i1⟩
  | 17 => ⟨S256x64x256, .f32⟩
  | 18 => ⟨S256x64x256, .f32⟩
  | 19 => ⟨S256x64x1, .i1⟩
  | 20 => ⟨S256x64x64, .f32⟩
  | 21 => ⟨S256x64x256, .f32⟩
  | 22 => ⟨S1x1x256, .f32⟩
  | 23 => ⟨S256x64x256, .f32⟩
  | 24 => ⟨S256x64x256, .f32⟩
  | 25 => ⟨S_, .f32⟩
  | 26 => ⟨S_, .f32⟩
  | 27 => ⟨S256x64x256, .i1⟩
  | 28 => ⟨S256x64x256, .f32⟩
  | 29 => ⟨S256x64x256, .f32⟩
  | 30 => ⟨S256x64x64, .f32⟩
  | 31 => ⟨S_, .f32⟩
  | 32 => ⟨S256x64x64, .f32⟩
  | 33 => ⟨S256x64x64, .f32⟩
  | 34 => ⟨S256x64x1, .f32⟩
  | 35 => ⟨S256x64x65, .f32⟩
  | 36 => ⟨S256x1x65, .f32⟩
  | 37 => ⟨S256x65x65, .f32⟩
  | 38 => ⟨S_, .i1⟩
  | 39 => ⟨S256x1, .i1⟩
  | 40 => ⟨S256x65, .i1⟩
  | 41 => ⟨S_, .i1⟩
  | 42 => ⟨S256x1, .i1⟩
  | 43 => ⟨S256x65, .i1⟩
  | 44 => ⟨S256x65x1, .i1⟩
  | 45 => ⟨S256x1x65, .i1⟩
  | 46 => ⟨S256x65x65, .i1⟩
  | 47 => ⟨S256x65x65, .i1⟩
  | 48 => ⟨S256x65x65, .i1⟩
  | 49 => ⟨S_, .f32⟩
  | 50 => ⟨S_, .f32⟩
  | 51 => ⟨S256x65x65, .f32⟩
  | 52 => ⟨S256x65x65, .f32⟩
  | 53 => ⟨S256x64, .i32⟩
  | 54 => ⟨S_, .i32⟩
  | 55 => ⟨S256, .i32⟩
  | 56 => ⟨S256, .f32⟩
  | 57 => ⟨S_, .f32⟩
  | 58 => ⟨S256, .f32⟩
  | 59 => ⟨S256, .f32⟩
  | 60 => ⟨S256x64, .i32⟩
  | 61 => ⟨S_, .i32⟩
  | 62 => ⟨S256, .i32⟩
  | 63 => ⟨S256, .f32⟩
  | 64 => ⟨S_, .f32⟩
  | 65 => ⟨S256, .f32⟩
  | 66 => ⟨S256, .f32⟩
  | 67 => ⟨S256, .f32⟩
  | 68 => ⟨S256, .f32⟩
  | 69 => ⟨S256, .f32⟩
  | 70 => ⟨S256x1, .f32⟩
  | 71 => ⟨S256x64, .f32⟩
  | 72 => ⟨S256, .f32⟩
  | 73 => ⟨S256, .f32⟩
  | 74 => ⟨S256x1, .f32⟩
  | 75 => ⟨S256x65, .f32⟩
  | 76 => ⟨S256x1, .f32⟩
  | 77 => ⟨S256x64, .f32⟩
  | 78 => ⟨S256, .f32⟩
  | 79 => ⟨S256, .f32⟩
  | 80 => ⟨S256x1, .f32⟩
  | 81 => ⟨S256x65, .f32⟩
  | 82 => ⟨S_, .f32⟩
  | 83 => ⟨S256x65, .f32⟩
  | 84 => ⟨S_, .f32⟩
  | 85 => ⟨S256x65, .f32⟩
  | 86 => ⟨S_, .i32⟩
  | 87 => ⟨S256x65x65, .f32⟩
  | 88 => ⟨S256x65, .f32⟩
  | 89 => ⟨S256x65, .f32⟩
  | 90 => ⟨S_, .i32⟩
  | 91 => ⟨S256x65, .f32⟩
  | 92 => ⟨S256x65, .f32⟩
  | 93 => ⟨S_, .i32⟩
  | 94 => ⟨S_, .i1⟩
  | 95 => ⟨S256x1x65, .f32⟩
  | 96 => ⟨S256x65x65, .f32⟩
  | 97 => ⟨S256x65x65, .f32⟩
  | 98 => ⟨S_, .f32⟩
  | 99 => ⟨S256x65, .f32⟩
  | 100 => ⟨S256x65x1, .f32⟩
  | 101 => ⟨S256x65x1, .f32⟩
  | 102 => ⟨S_, .f32⟩
  | 103 => ⟨S256x65x1, .f32⟩
  | 104 => ⟨S256x65x1, .i1⟩
  | 105 => ⟨S_, .f32⟩
  | 106 => ⟨S_, .f32⟩
  | 107 => ⟨S256x65x1, .f32⟩
  | 108 => ⟨S256x65x1, .f32⟩
  | 109 => ⟨S256x65x65, .f32⟩
  | 110 => ⟨S256x65x65, .f32⟩
  | 111 => ⟨S256x65x65, .f32⟩
  | 112 => ⟨S_, .f32⟩
  | 113 => ⟨S256x65, .f32⟩
  | 114 => ⟨S256x65, .f32⟩
  | 115 => ⟨S256x65, .f32⟩
  | 116 => ⟨S256x65, .f32⟩
  | 117 => ⟨S256x65, .f32⟩
  | 118 => ⟨S256x65, .f32⟩
  | 119 => ⟨S256x65x1, .f32⟩
  | 120 => ⟨S256x65x65, .f32⟩
  | 121 => ⟨S256x65x65, .f32⟩
  | 122 => ⟨S_, .f32⟩
  | 123 => ⟨S256x65, .f32⟩
  | 124 => ⟨S256x1x65, .f32⟩
  | 125 => ⟨S256x1x65, .f32⟩
  | 126 => ⟨S_, .f32⟩
  | 127 => ⟨S256x1x65, .f32⟩
  | _ => ⟨S256x64x3, .f32⟩

abbrev hbmTy0_1 (i : Nat) : BufTy := match i % 128 with
  | 0 => ⟨S256x1x65, .i1⟩
  | 1 => ⟨S_, .f32⟩
  | 2 => ⟨S_, .f32⟩
  | 3 => ⟨S256x1x65, .f32⟩
  | 4 => ⟨S256x1x65, .f32⟩
  | 5 => ⟨S256x65x65, .f32⟩
  | 6 => ⟨S256x65x65, .f32⟩
  | 7 => ⟨S256x65x65, .f32⟩
  | 8 => ⟨S_, .f32⟩
  | 9 => ⟨S256x65, .f32⟩
  | 10 => ⟨S256x65, .f32⟩
  | 11 => ⟨S256x65, .f32⟩
  | 12 => ⟨S256x65, .f32⟩
  | 13 => ⟨S256x65, .f32⟩
  | 14 => ⟨S256x65, .f32⟩
  | 15 => ⟨S_, .i32⟩
  | 16 => ⟨S_, .i32⟩
  | 17 => ⟨S256x65x1, .f32⟩
  | 18 => ⟨S256x65x65, .f32⟩
  | 19 => ⟨S256x65x65, .f32⟩
  | 20 => ⟨S256x1x65, .f32⟩
  | 21 => ⟨S256x65x65, .f32⟩
  | 22 => ⟨S256x65x65, .f32⟩
  | 23 => ⟨S256x1x1, .f32⟩
  | 24 => ⟨S256x65x65, .f32⟩
  | 25 => ⟨S256x65x65, .f32⟩
  | 26 => ⟨S256x64x64, .f32⟩
  | 27 => ⟨S256x64x64, .f32⟩
  | 28 => ⟨S256x64x1, .i1⟩
  | 29 => ⟨S256x1x64, .i1⟩
  | 30 => ⟨S256x64x64, .i1⟩
  | 31 => ⟨S256x64x64, .i1⟩
  | 32 => ⟨S256x64x64, .i1⟩
  | 33 => ⟨S_, .f32⟩
  | 34 => ⟨S_, .f32⟩
  | 35 => ⟨S256x64x64, .f32⟩
  | 36 => ⟨S256x64x64, .f32⟩
  | 37 => ⟨S256x4096, .f32⟩
  | 38 => ⟨S256x3, .f32⟩
  | 39 => ⟨S256x3, .i32⟩
  | 40 => ⟨S_, .i32⟩
  | 41 => ⟨S_, .i32⟩
  | 42 => ⟨S256x3, .i32⟩
  | 43 => ⟨S256x3, .i32⟩
  | 44 => ⟨S256x3, .i32⟩
  | 45 => ⟨S_, .i32⟩
  | 46 => ⟨S256x3, .i32⟩
  | 47 => ⟨S256x3, .i1⟩
  | 48 => ⟨S256x3, .i32⟩
  | 49 => ⟨S256x3, .i32⟩
  | 50 => ⟨S_, .i32⟩
  | 51 => ⟨S256x3, .i32⟩
  | 52 => ⟨S256x3, .i1⟩
  | 53 => ⟨S256x3, .i1⟩
  | 54 => ⟨S_, .i32⟩
  | 55 => ⟨S256x3, .i32⟩
  | 56 => ⟨S256x3, .i32⟩
  | 57 => ⟨S256x3, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S256x3, .i32⟩
  | 65 => ⟨S256x3, .i32⟩
  | 66 => ⟨S_, .i32⟩
  | 67 => ⟨S256x3, .i32⟩
  | 68 => ⟨S256x3, .i1⟩
  | 69 => ⟨S_, .i32⟩
  | 70 => ⟨S256x3, .i32⟩
  | 71 => ⟨S256x3, .i1⟩
  | 72 => ⟨S_, .i32⟩
  | 73 => ⟨S_, .i1⟩
  | 74 => ⟨S256x3, .i1⟩
  | 75 => ⟨S256x3, .i1⟩
  | 76 => ⟨S256x3, .i1⟩
  | 77 => ⟨S256x3, .i32⟩
  | 78 => ⟨S256x3, .i32⟩
  | 79 => ⟨S256x3, .i32⟩
  | 80 => ⟨S256x3x1, .i32⟩
  | 81 => ⟨S_, .i32⟩
  | 82 => ⟨S256x3x1, .i32⟩
  | 83 => ⟨S256x3x1, .i1⟩
  | 84 => ⟨S_, .i32⟩
  | 85 => ⟨S256x3x1, .i32⟩
  | 86 => ⟨S256x3x1, .i32⟩
  | 87 => ⟨S256x3x1, .i32⟩
  | 88 => ⟨S1, .i32⟩
  | 89 => ⟨S_, .i32⟩
  | 90 => ⟨S256x3x1, .i32⟩
  | 91 => ⟨S256x3x1, .i1⟩
  | 92 => ⟨S1x1x1, .i32⟩
  | 93 => ⟨S256x3x1, .i32⟩
  | 94 => ⟨S256x3x1, .i1⟩
  | 95 => ⟨S256x3x1, .i1⟩
  | 96 => ⟨S_, .i1⟩
  | 97 => ⟨S256x3, .i1⟩
  | 98 => ⟨S256x3x3, .f32⟩
  | 99 => ⟨S256x3x3, .i1⟩
  | 100 => ⟨S_, .f32⟩
  | 101 => ⟨S256x3x3, .f32⟩
  | 102 => ⟨S256x3x3, .f32⟩
  | 103 => ⟨S256x3x1, .i32⟩
  | 104 => ⟨S_, .i32⟩
  | 105 => ⟨S256x3x1, .i32⟩
  | 106 => ⟨S256x3x1, .i1⟩
  | 107 => ⟨S_, .i32⟩
  | 108 => ⟨S256x3x1, .i32⟩
  | 109 => ⟨S256x3x1, .i32⟩
  | 110 => ⟨S256x3x1, .i32⟩
  | 111 => ⟨S1, .i32⟩
  | 112 => ⟨S_, .i32⟩
  | 113 => ⟨S256x3x1, .i32⟩
  | 114 => ⟨S256x3x1, .i1⟩
  | 115 => ⟨S1x1x1, .i32⟩
  | 116 => ⟨S256x3x1, .i32⟩
  | 117 => ⟨S256x3x1, .i1⟩
  | 118 => ⟨S256x3x1, .i1⟩
  | 119 => ⟨S_, .i1⟩
  | 120 => ⟨S256x3, .i1⟩
  | 121 => ⟨S256x3x3, .f32⟩
  | 122 => ⟨S256x3x3, .i1⟩
  | 123 => ⟨S_, .f32⟩
  | 124 => ⟨S256x3x3, .f32⟩
  | 125 => ⟨S256x3x3, .f32⟩
  | _ => ⟨S256x64x3, .f32⟩

abbrev hbmTy (i : Nat) : BufTy := match i / 128 with
  | 0 => hbmTy0_0 i
  | 1 => hbmTy0_1 i
  | _ => ⟨S256x64x3, .f32⟩

abbrev bufTy : (tb : Table) → Fin (tcTables nBuf tb) → BufTy
  | .hbm, ⟨i, _⟩ => hbmTy i
  | _, _ => ⟨S256x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_8 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_c_10 : Ref sig .tc := ⟨.hbm, 86, rfl⟩
abbrev main_v58_0 : Ref sig .tc := ⟨.hbm, 87, rfl⟩
abbrev main_v58_1 : Ref sig .tc := ⟨.hbm, 88, rfl⟩
abbrev main_v58_2 : Ref sig .tc := ⟨.hbm, 89, rfl⟩
abbrev main_v58_3 : Ref sig .tc := ⟨.hbm, 90, rfl⟩
abbrev main_v58_4 : Ref sig .tc := ⟨.hbm, 91, rfl⟩
abbrev main_v58_5 : Ref sig .tc := ⟨.hbm, 92, rfl⟩
abbrev main_while0c_c_19 : Ref sig .tc := ⟨.hbm, 93, rfl⟩
abbrev main_while0c_v83 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_cst_19 : Ref sig .tc := ⟨.hbm, 98, rfl⟩
abbrev main_while0b_v86 : Ref sig .tc := ⟨.hbm, 99, rfl⟩
abbrev main_while0b_v87 : Ref sig .tc := ⟨.hbm, 100, rfl⟩
abbrev main_while0b_v88 : Ref sig .tc := ⟨.hbm, 101, rfl⟩
abbrev main_while0b_cst_20 : Ref sig .tc := ⟨.hbm, 102, rfl⟩
abbrev main_while0b_v89 : Ref sig .tc := ⟨.hbm, 103, rfl⟩
abbrev main_while0b_v90 : Ref sig .tc := ⟨.hbm, 104, rfl⟩
abbrev main_while0b_cst_21 : Ref sig .tc := ⟨.hbm, 105, rfl⟩
abbrev main_while0b_call3_v0 : Ref sig .tc := ⟨.hbm, 106, rfl⟩
abbrev main_while0b_call3_v1 : Ref sig .tc := ⟨.hbm, 107, rfl⟩
abbrev main_while0b_v91 : Ref sig .tc := ⟨.hbm, 108, rfl⟩
abbrev main_while0b_v92 : Ref sig .tc := ⟨.hbm, 109, rfl⟩
abbrev main_while0b_v93 : Ref sig .tc := ⟨.hbm, 110, rfl⟩
abbrev main_while0b_v94 : Ref sig .tc := ⟨.hbm, 111, rfl⟩
abbrev main_while0b_cst_22 : Ref sig .tc := ⟨.hbm, 112, rfl⟩
abbrev main_while0b_v95 : Ref sig .tc := ⟨.hbm, 113, rfl⟩
abbrev main_while0b_v96 : Ref sig .tc := ⟨.hbm, 114, rfl⟩
abbrev main_while0b_v97 : Ref sig .tc := ⟨.hbm, 115, rfl⟩
abbrev main_while0b_v98 : Ref sig .tc := ⟨.hbm, 116, rfl⟩
abbrev main_while0b_v99 : Ref sig .tc := ⟨.hbm, 117, rfl⟩
abbrev main_while0b_v100 : Ref sig .tc := ⟨.hbm, 118, rfl⟩
abbrev main_while0b_v101 : Ref sig .tc := ⟨.hbm, 119, rfl⟩
abbrev main_while0b_v102 : Ref sig .tc := ⟨.hbm, 120, rfl⟩
abbrev main_while0b_v103 : Ref sig .tc := ⟨.hbm, 121, rfl⟩
abbrev main_while0b_cst_23 : Ref sig .tc := ⟨.hbm, 122, rfl⟩
abbrev main_while0b_v104 : Ref sig .tc := ⟨.hbm, 123, rfl⟩
abbrev main_while0b_v105 : Ref sig .tc := ⟨.hbm, 124, rfl⟩
abbrev main_while0b_v106 : Ref sig .tc := ⟨.hbm, 125, rfl⟩
abbrev main_while0b_cst_24 : Ref sig .tc := ⟨.hbm, 126, rfl⟩
abbrev main_while0b_v107 : Ref sig .tc := ⟨.hbm, 127, rfl⟩
abbrev main_while0b_v108 : Ref sig .tc := ⟨.hbm, 128, rfl⟩
abbrev main_while0b_cst_25 : Ref sig .tc := ⟨.hbm, 129, rfl⟩
abbrev main_while0b_call4_v0 : Ref sig .tc := ⟨.hbm, 130, rfl⟩
abbrev main_while0b_call4_v1 : Ref sig .tc := ⟨.hbm, 131, rfl⟩
abbrev main_while0b_v109 : Ref sig .tc := ⟨.hbm, 132, rfl⟩
abbrev main_while0b_v110 : Ref sig .tc := ⟨.hbm, 133, rfl⟩
abbrev main_while0b_v111 : Ref sig .tc := ⟨.hbm, 134, rfl⟩
abbrev main_while0b_v112 : Ref sig .tc := ⟨.hbm, 135, rfl⟩
abbrev main_while0b_cst_26 : Ref sig .tc := ⟨.hbm, 136, rfl⟩
abbrev main_while0b_v113 : Ref sig .tc := ⟨.hbm, 137, rfl⟩
abbrev main_while0b_v114 : Ref sig .tc := ⟨.hbm, 138, rfl⟩
abbrev main_while0b_v115 : Ref sig .tc := ⟨.hbm, 139, rfl⟩
abbrev main_while0b_v116 : Ref sig .tc := ⟨.hbm, 140, rfl⟩
abbrev main_while0b_v117 : Ref sig .tc := ⟨.hbm, 141, rfl⟩
abbrev main_while0b_v118 : Ref sig .tc := ⟨.hbm, 142, rfl⟩
abbrev main_while0b_c_27 : Ref sig .tc := ⟨.hbm, 143, rfl⟩
abbrev main_while0b_v119 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_cst_11 : Ref sig .tc := ⟨.hbm, 161, rfl⟩
abbrev main_call5_v0 : Ref sig .tc := ⟨.hbm, 162, rfl⟩
abbrev main_call5_v1 : Ref sig .tc := ⟨.hbm, 163, rfl⟩
abbrev main_v75 : Ref sig .tc := ⟨.hbm, 164, rfl⟩
abbrev main_v76 : Ref sig .tc := ⟨.hbm, 165, rfl⟩
abbrev main_values : Ref sig .tc := ⟨.hbm, 166, rfl⟩
abbrev main_indices : Ref sig .tc := ⟨.hbm, 167, rfl⟩
abbrev main_c_12 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_v6 : Ref sig .tc := ⟨.hbm, 175, rfl⟩
abbrev main_call6_v7 : Ref sig .tc := ⟨.hbm, 176, rfl⟩
abbrev main_call6_v8 : Ref sig .tc := ⟨.hbm, 177, rfl⟩
abbrev main_call6_c : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_c_0 : Ref sig .tc := ⟨.hbm, 182, rfl⟩
abbrev main_call6_v12 : Ref sig .tc := ⟨.hbm, 183, rfl⟩
abbrev main_call6_v13 : Ref sig .tc := ⟨.hbm, 184, rfl⟩
abbrev main_v77 : Ref sig .tc := ⟨.hbm, 185, rfl⟩
abbrev main_c_13 : Ref sig .tc := ⟨.hbm, 186, rfl⟩
abbrev main_call7_v0 : Ref sig .tc := ⟨.hbm, 187, rfl⟩
abbrev main_call7_c : Ref sig .tc := ⟨.hbm, 188, rfl⟩
abbrev main_call7_v1 : Ref sig .tc := ⟨.hbm, 189, rfl⟩
abbrev main_call7_c_0 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_c_1 : Ref sig .tc := ⟨.hbm, 194, rfl⟩
abbrev main_call7_v5 : Ref sig .tc := ⟨.hbm, 195, rfl⟩
abbrev main_call7_v6 : Ref sig .tc := ⟨.hbm, 196, rfl⟩
abbrev main_call7_c_2 : Ref sig .tc := ⟨.hbm, 197, rfl⟩
abbrev main_call7_v7 : Ref sig .tc := ⟨.hbm, 198, rfl⟩
abbrev main_call7_v8 : Ref sig .tc := ⟨.hbm, 199, rfl⟩
abbrev main_call7_c_3 : Ref sig .tc := ⟨.hbm, 200, rfl⟩
abbrev main_call7_v9 : Ref sig .tc := ⟨.hbm, 201, rfl⟩
abbrev main_call7_v10 : Ref sig .tc := ⟨.hbm, 202, rfl⟩
abbrev main_call7_v11 : Ref sig .tc := ⟨.hbm, 203, rfl⟩
abbrev main_call7_v12 : Ref sig .tc := ⟨.hbm, 204, rfl⟩
abbrev main_call7_v13 : Ref sig .tc := ⟨.hbm, 205, rfl⟩
abbrev main_call7_v14 : Ref sig .tc := ⟨.hbm, 206, rfl⟩
abbrev main_v78 : Ref sig .tc := ⟨.hbm, 207, rfl⟩
abbrev main_v79 : Ref sig .tc := ⟨.hbm, 208, rfl⟩
abbrev main_call8_c : Ref sig .tc := ⟨.hbm, 209, rfl⟩
abbrev main_call8_v0 : Ref sig .tc := ⟨.hbm, 210, rfl⟩
abbrev main_call8_v1 : Ref sig .tc := ⟨.hbm, 211, rfl⟩
abbrev main_call8_c_0 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_c_1 : Ref sig .tc := ⟨.hbm, 216, rfl⟩
abbrev main_call8_c_2 : Ref sig .tc := ⟨.hbm, 217, rfl⟩
abbrev main_call8_v5 : Ref sig .tc := ⟨.hbm, 218, rfl⟩
abbrev main_call8_v6 : Ref sig .tc := ⟨.hbm, 219, rfl⟩
abbrev main_call8_v7 : Ref sig .tc := ⟨.hbm, 220, rfl⟩
abbrev main_call8_v8 : Ref sig .tc := ⟨.hbm, 221, rfl⟩
abbrev main_call8_v9 : Ref sig .tc := ⟨.hbm, 222, rfl⟩
abbrev main_call8_v10 : Ref sig .tc := ⟨.hbm, 223, rfl⟩
abbrev main_call8_c_3 : Ref sig .tc := ⟨.hbm, 224, rfl⟩
abbrev main_call8_v11 : Ref sig .tc := ⟨.hbm, 225, rfl⟩
abbrev main_call8_v12 : Ref sig .tc := ⟨.hbm, 226, rfl⟩
abbrev main_call8_v13 : Ref sig .tc := ⟨.hbm, 227, rfl⟩
abbrev main_call8_cst : Ref sig .tc := ⟨.hbm, 228, rfl⟩
abbrev main_call8_v14 : Ref sig .tc := ⟨.hbm, 229, rfl⟩
abbrev main_v80 : Ref sig .tc := ⟨.hbm, 230, rfl⟩
abbrev main_v81 : Ref sig .tc := ⟨.hbm, 231, rfl⟩
abbrev main_call9_c : Ref sig .tc := ⟨.hbm, 232, rfl⟩
abbrev main_call9_v0 : Ref sig .tc := ⟨.hbm, 233, rfl⟩
abbrev main_call9_v1 : Ref sig .tc := ⟨.hbm, 234, rfl⟩
abbrev main_call9_c_0 : Ref sig .tc := ⟨.hbm, 235, rfl⟩
abbrev main_call9_v2 : Ref sig .tc := ⟨.hbm, 236, rfl⟩
abbrev main_call9_v3 : Ref sig .tc := ⟨.hbm, 237, rfl⟩
abbrev main_call9_v4 : Ref sig .tc := ⟨.hbm, 238, rfl⟩
abbrev main_call9_c_1 : Ref sig .tc := ⟨.hbm, 239, rfl⟩
abbrev main_call9_c_2 : Ref sig .tc := ⟨.hbm, 240, rfl⟩
abbrev main_call9_v5 : Ref sig .tc := ⟨.hbm, 241, rfl⟩
abbrev main_call9_v6 : Ref sig .tc := ⟨.hbm, 242, rfl⟩
abbrev main_call9_v7 : Ref sig .tc := ⟨.hbm, 243, rfl⟩
abbrev main_call9_v8 : Ref sig .tc := ⟨.hbm, 244, rfl⟩
abbrev main_call9_v9 : Ref sig .tc := ⟨.hbm, 245, rfl⟩
abbrev main_call9_v10 : Ref sig .tc := ⟨.hbm, 246, rfl⟩
abbrev main_call9_c_3 : Ref sig .tc := ⟨.hbm, 247, rfl⟩
abbrev main_call9_v11 : Ref sig .tc := ⟨.hbm, 248, rfl⟩
abbrev main_call9_v12 : Ref sig .tc := ⟨.hbm, 249, rfl⟩
abbrev main_call9_v13 : Ref sig .tc := ⟨.hbm, 250, rfl⟩
abbrev main_call9_cst : Ref sig .tc := ⟨.hbm, 251, rfl⟩
abbrev main_call9_v14 : Ref sig .tc := ⟨.hbm, 252, rfl⟩
abbrev main_v82 : Ref sig .tc := ⟨.hbm, 253, rfl⟩

abbrev nD : Nat := 1
abbrev τ : Topo := Topo.v7x

variable {F : FTy → Type} [FloatOps F]

abbrev main_while0_count : Scf.Loop 32 := ⟨0#32, 100#32, 1#32⟩
-- ==== Matching.lean ====
abbrev S20000x3 : Shape := ⟨2, ![20000, 3]⟩
abbrev S512 : Shape := ⟨1, ![512]⟩
abbrev S3x256 : Shape := ⟨2, ![3, 256]⟩
abbrev S256x256 : Shape := ⟨2, ![256, 256]⟩
abbrev S256 : Shape := ⟨1, ![256]⟩
abbrev S_ : Shape := ⟨0, ![]⟩
abbrev S512x1 : Shape := ⟨2, ![512, 1]⟩
abbrev S512x3 : Shape := ⟨2, ![512, 3]⟩
abbrev S512x256 : Shape := ⟨2, ![512, 256]⟩
abbrev S1x256 : Shape := ⟨2, ![1, 256]⟩
abbrev S512x512 : Shape := ⟨2, ![512, 512]⟩
abbrev S1x512 : Shape := ⟨2, ![1, 512]⟩
abbrev S1 : Shape := ⟨1, ![1]⟩
abbrev S1x1 : Shape := ⟨2, ![1, 1]⟩

abbrev nBuf : Space → Nat
  | .hbm => 64
  | .vmem => 5
  | .smem => 0
  | _ => 0

abbrev bufTy : (tb : Table) → Fin (tcTables nBuf tb) → BufTy
  | .hbm, ⟨0, _⟩ => ⟨S20000x3, .f32⟩
  | .hbm, ⟨1, _⟩ => ⟨S20000x3, .f32⟩
  | .hbm, ⟨2, _⟩ => ⟨S512, .i1⟩
  | .hbm, ⟨3, _⟩ => ⟨S512, .i1⟩
  | .hbm, ⟨4, _⟩ => ⟨S3x256, .f32⟩
  | .hbm, ⟨5, _⟩ => ⟨S256x256, .f32⟩
  | .hbm, ⟨6, _⟩ => ⟨S256, .f32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S512x3, .f32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512x3, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S1x256, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512, .f32⟩
  | .hbm, ⟨38, _⟩ => ⟨S512x1, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S1x256, .f32⟩
  | .hbm, ⟨47, _⟩ => ⟨S512x256, .f32⟩
  | .hbm, ⟨48, _⟩ => ⟨S512x256, .f32⟩
  | .hbm, ⟨49, _⟩ => ⟨S512x256, .f32⟩
  | .hbm, ⟨50, _⟩ => ⟨S_, .f32⟩
  | .hbm, ⟨51, _⟩ => ⟨S512, .f32⟩
  | .hbm, ⟨52, _⟩ => ⟨S512x1, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x256, .f32⟩
  | .hbm, ⟨58, _⟩ => ⟨S512x256, .f32⟩
  | .hbm, ⟨59, _⟩ => ⟨S512, .f32⟩
  | .hbm, ⟨60, _⟩ => ⟨S512x1, .f32⟩
  | .hbm, ⟨61, _⟩ => ⟨S512, .f32⟩
  | .hbm, ⟨62, _⟩ => ⟨S512x1, .f32⟩
  | .hbm, ⟨63, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x1, .f32⟩
  | .local _ .vmem, ⟨3, _⟩ => ⟨S512x1, .f32⟩
  | .local _ .vmem, ⟨4, _⟩ => ⟨S1x256, .f32⟩
  | _, _ => ⟨S20000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v45 : BitVec 32 := Scalar.addi c0_i32 c256_i32
  let c1_i32 : BitVec 32 := 1#32
  ⟨c0_i32, v45, c1_i32⟩
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MatchingReference.lean ====
abbrev S20000x3 : Shape := ⟨2, ![20000, 3]⟩
abbrev S512 : Shape := ⟨1, ![512]⟩
abbrev S3x256 : Shape := ⟨2, ![3, 256]⟩
abbrev S256x256 : Shape := ⟨2, ![256, 256]⟩
abbrev S256 : Shape := ⟨1, ![256]⟩
abbrev S_ : Shape := ⟨0, ![]⟩
abbrev S512x1 : Shape := ⟨2, ![512, 1]⟩
abbrev S512x3 : Shape := ⟨2, ![512, 3]⟩
abbrev S512x256 : Shape := ⟨2, ![512, 256]⟩
abbrev S1x256 : Shape := ⟨2, ![1, 256]⟩
abbrev S256x512 : Shape := ⟨2, ![256, 512]⟩
abbrev S512x512 : Shape := ⟨2, ![512, 512]⟩
abbrev S1x512 : Shape := ⟨2, ![1, 512]⟩
abbrev S262144 : Shape := ⟨1, ![262144]⟩

abbrev nBuf : Space → Nat
  | .hbm => 97
  | .vmem => 0
  | .smem => 0
  | _ => 0

abbrev bufTy : (tb : Table) → Fin (tcTables nBuf tb) → BufTy
  | .hbm, ⟨0, _⟩ => ⟨S20000x3, .f32⟩
  | .hbm, ⟨1, _⟩ => ⟨S20000x3, .f32⟩
  | .hbm, ⟨2, _⟩ => ⟨S512, .i1⟩
  | .hbm, ⟨3, _⟩ => ⟨S512, .i1⟩
  | .hbm, ⟨4, _⟩ => ⟨S3x256, .f32⟩
  | .hbm, ⟨5, _⟩ => ⟨S256x256, .f32⟩
  | .hbm, ⟨6, _⟩ => ⟨S256, .f32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S512x3, .f32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512x3, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S1x256, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512, .f32⟩
  | .hbm, ⟨38, _⟩ => ⟨S512x1, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S512x256, .f32⟩
  | .hbm, ⟨44, _⟩ => ⟨S512x256, .f32⟩
  | .hbm, ⟨45, _⟩ => ⟨S512x256, .f32⟩
  | .hbm, ⟨46, _⟩ => ⟨S1x256, .f32⟩
  | .hbm, ⟨47, _⟩ => ⟨S512x256, .f32⟩
  | .hbm, ⟨48, _⟩ => ⟨S512x256, .f32⟩
  | .hbm, ⟨49, _⟩ => ⟨S512x256, .f32⟩
  | .hbm, ⟨50, _⟩ => ⟨S_, .f32⟩
  | .hbm, ⟨51, _⟩ => ⟨S512, .f32⟩
  | .hbm, ⟨52, _⟩ => ⟨S512x1, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S512x256, .f32⟩
  | .hbm, ⟨58, _⟩ => ⟨S512x256, .f32⟩
  | .hbm, ⟨59, _⟩ => ⟨S256x512, .f32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S_, .f32⟩
  | .hbm, ⟨73, _⟩ => ⟨S512, .f32⟩
  | .hbm, ⟨74, _⟩ => ⟨S512x1, .f32⟩
  | .hbm, ⟨75, _⟩ => ⟨S512x512, .f32⟩
  | .hbm, ⟨76, _⟩ => ⟨S512x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S512x512, .f32⟩
  | .hbm, ⟨81, _⟩ => ⟨S512x512, .f32⟩
  | .hbm, ⟨82, _⟩ => ⟨S512x512, .f32⟩
  | .hbm, ⟨83, _⟩ => ⟨S512x1, .i1⟩
  | .hbm, ⟨84, _⟩ => ⟨S1x512, .i1⟩
  | .hbm, ⟨85, _⟩ => ⟨S512x512, .i1⟩
  | .hbm, ⟨86, _⟩ => ⟨S512x512, .i1⟩
  | .hbm, ⟨87, _⟩ => ⟨S512x512, .i1⟩
  | .hbm, ⟨88, _⟩ => ⟨S_, .f32⟩
  | .hbm, ⟨89, _⟩ => ⟨S_, .f32⟩
  | .hbm, ⟨90, _⟩ => ⟨S512x512, .f32⟩
  | .hbm, ⟨91, _⟩ => ⟨S512x512, .f32⟩
  | .hbm, ⟨92, _⟩ => ⟨S262144, .f32⟩
  | .hbm, ⟨93, _⟩ => ⟨S256, .f32⟩
  | .hbm, ⟨94, _⟩ => ⟨S256, .i32⟩
  | .hbm, ⟨95, _⟩ => ⟨S256, .f32⟩
  | .hbm, ⟨96, _⟩ => ⟨S1x256, .f32⟩
  | _, _ => ⟨S20000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_v62 : Ref sig .tc := ⟨.hbm, 92, rfl⟩
abbrev main_values : Ref sig .tc := ⟨.hbm, 93, rfl⟩
abbrev main_indices : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Proof.Block.lean ====
/-
  What one grid point of the kernel leaves in its four output blocks, as a function of its six input blocks: the stores'
  payloads, with the hundred-step loop as an iteration of one step function.
-/
module

public import proofs.«01_k».proof.Proof.Gen.KernelIdeal.Value
public import Idealize.ShloMosaic.Lib.Pipeline.Value
public import Idealize.ShloMosaic.Lib.Tactic

@[expose] public section

noncomputable section
open Idealize.ShloMosaic Idealize.ShloMosaic.TcCoe Idealize.SL.Sem
namespace Cert.KernelIdeal.Blk
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The padded and masked score block, from the block's scores, its two masks and the dustbin score. -/
def padB (x0 : Vec F S32x65x65 .f32) (x1 x2 : Vec F S32x64 .f32) (x3 : Vec F S1x1 .f32) : FVec F S32x65x65 .f32 :=
  k0_pay3 x0 x1 x2 (x3 (Shape.Idx.first numel1_S1x1.symm.le))

/-- One round of the alternating normalisation: new row potentials from the old column potentials, new column potentials
    from the new row potentials. -/
def stepB (x0 : Vec F S32x65x65 .f32) (x1 x2 : Vec F S32x64 .f32) (x3 : Vec F S1x1 .f32) (s : FVec F S32x65 .f32 × FVec F S32x65 .f32) : FVec F S32x65 .f32 × FVec F S32x65 .f32 :=
  (k0_pay9 (k0_pay1 x1) (k0_pay2 x2) (iota .tc S32x65 32 [1] iota_S32x65_d1_w32) (padB x0 x1 x2 x3) s.2,
   k0_pay10 (k0_pay1 x1) (k0_pay2 x2) (iota .tc S32x65 32 [1] iota_S32x65_d1_w32) (padB x0 x1 x2 x3) s.2)

/-- The potentials after the loop's rounds. -/
def uvB (x0 : Vec F S32x65x65 .f32) (x1 x2 : Vec F S32x64 .f32) (x3 : Vec F S1x1 .f32) : FVec F S32x65 .f32 × FVec F S32x65 .f32 :=
  Scf.fold (fun (_ : Fin k0_t1_loop.trips) s => stepB x0 x1 x2 x3 s) (k0_pay7, k0_pay8)

/-- The block of log assignments. -/
def outB (x0 : Vec F S32x65x65 .f32) (x1 x2 : Vec F S32x64 .f32) (x3 : Vec F S1x1 .f32) : FVec F S32x65x65 .f32 :=
  k0_pay11 (k0_pay1 x1) (k0_pay2 x2) (padB x0 x1 x2 x3) (uvB x0 x1 x2 x3).1 (uvB x0 x1 x2 x3).2

/-- The masked assignments after the first pick has been struck out. -/
def fm1B (x0 : Vec F S32x65x65 .f32) (x1 x2 : Vec F S32x64 .f32) (x3 : Vec F S1x1 .f32) : FVec F S32x64x64 .f32 := k0_pay21 (k0_pay1 x1) (k0_pay2 x2) (outB x0 x1 x2 x3)

/-- The masked assignments after the second pick has been struck out too. -/
def fm2B (x0 : Vec F S32x65x65 .f32) (x1 x2 : Vec F S32x64 .f32) (x3 : Vec F S1x1 .f32) : FVec F S32x64x64 .f32 := k0_pay30 k0_pay13 (fm1B x0 x1 x2 x3)

/-- The point's block of log assignments. -/
theorem out6 (c : Dev nD) (i : grid0.Coords) (arg1 : Memref sig .tc .vmem S32x65x65 .f32) (harg1 : arg1.IsWhole) (arg2 : Memref sig .tc .vmem S32x64 .f32) (harg2 : arg2.IsWhole) (arg3 : Memref sig .tc .vmem S32x64 .f32) (harg3 : arg3.IsWhole) (arg4 : Memref sig .tc .smem S1x1 .f32) (harg4 : arg4.IsWhole) (arg5 : Memref sig .tc .vmem S32x3x64 .f32) (harg5 : arg5.IsWhole) (arg6 : Memref sig .tc .vmem S32x3x64 .f32) (harg6 : arg6.IsWhole) (arg7 : Memref sig .tc .vmem S32x65x65 .f32) (harg7 : arg7.IsWhole) (arg8 : Memref sig .tc .vmem S32x3 .f32) (harg8 : arg8.IsWhole) (arg9 : Memref sig .tc .vmem S32x3x3 .f32) (harg9 : arg9.IsWhole) (arg10 : Memref sig .tc .vmem S32x3x3 .f32) (harg10 : arg10.IsWhole) (x0 : Vec F S32x65x65 .f32) (x1 : Vec F S32x64 .f32) (x2 : Vec F S32x64 .f32) (x3 : Vec F S1x1 .f32) (x4 : Vec F S32x3x64 .f32) (x5 : Vec F S32x3x64 .f32) :
    out0_A_6 c i arg1 harg1 arg2 harg2 arg3 harg3 arg4 harg4 arg5 harg5 arg6 harg6 arg7 harg7 arg8 harg8 arg9 harg9 arg10 harg10 x0 x1 x2 x3 x4 x5 = outB x0 x1 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  have e3 : View.ld x3 (Rect.unit ![0, 0] ![1, 1] inb_S1x1_S1x1_0_0) (Shape.Idx.first numel1_S1x1.symm.le) = x3 (Shape.Idx.first numel1_S1x1.symm.le) :=
    congrFun (View.ld_unit_zero (S := S1x1) hz2 _ x3) _
  simp only [View.readAt_eq_ld, harg1.read_unread, harg2.read_unread, harg3.read_unread, harg4.read_unread, harg5.read_unread, harg6.read_unread, View.ld_unit_zero (S := S32x65x65) hz3, View.ld_unit_zero (S := S32x64) hz2, View.ld_unit_zero (S := S32x3x64) hz3, e3]
  rfl

/-- The block of scores of the three picks. -/
def res7B (x0 : Vec F S32x65x65 .f32) (x1 x2 : Vec F S32x64 .f32) (x3 : Vec F S1x1 .f32) : FVec F S32x3 .f32 :=
  k0_pay43 (iota .tc S32x3 32 [1] iota_S32x3_d1_w32) (k0_pay34 (iota .tc S32x3 32 [1] iota_S32x3_d1_w32) (k0_pay24 (iota .tc S32x3 32 [1] iota_S32x3_d1_w32) k0_pay15 (k0_pay18 (k0_pay1 x1) (k0_pay2 x2) (outB x0 x1 x2 x3))) (k0_pay27 (fm1B x0 x1 x2 x3))) (k0_pay37 (fm2B x0 x1 x2 x3))

/-- The point's block of scores of the three picks. -/
theorem out7 (c : Dev nD) (i : grid0.Coords) (arg1 : Memref sig .tc .vmem S32x65x65 .f32) (harg1 : arg1.IsWhole) (arg2 : Memref sig .tc .vmem S32x64 .f32) (harg2 : arg2.IsWhole) (arg3 : Memref sig .tc .vmem S32x64 .f32) (harg3 : arg3.IsWhole) (arg4 : Memref sig .tc .smem S1x1 .f32) (harg4 : arg4.IsWhole) (arg5 : Memref sig .tc .vmem S32x3x64 .f32) (harg5 : arg5.IsWhole) (arg6 : Memref sig .tc .vmem S32x3x64 .f32) (harg6 : arg6.IsWhole) (arg7 : Memref sig .tc .vmem S32x65x65 .f32) (harg7 : arg7.IsWhole) (arg8 : Memref sig .tc .vmem S32x3 .f32) (harg8 : arg8.IsWhole) (arg9 : Memref sig .tc .vmem S32x3x3 .f32) (harg9 : arg9.IsWhole) (arg10 : Memref sig .tc .vmem S32x3x3 .f32) (harg10 : arg10.IsWhole) (x0 : Vec F S32x65x65 .f32) (x1 : Vec F S32x64 .f32) (x2 : Vec F S32x64 .f32) (x3 : Vec F S1x1 .f32) (x4 : Vec F S32x3x64 .f32) (x5 : Vec F S32x3x64 .f32) :
    out0_A_7 c i arg1 harg1 arg2 harg2 arg3 harg3 arg4 harg4 arg5 harg5 arg6 harg6 arg7 harg7 arg8 harg8 arg9 harg9 arg10 harg10 x0 x1 x2 x3 x4 x5 = res7B x0 x1 x2 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz2]
  have e3 : View.ld x3 (Rect.unit ![0, 0] ![1, 1] inb_S1x1_S1x1_0_0) (Shape.Idx.first numel1_S1x1.symm.le) = x3 (Shape.Idx.first numel1_S1x1.symm.le) :=
    congrFun (View.ld_unit_zero (S := S1x1) hz2 _ x3) _
  simp only [View.readAt_eq_ld, harg1.read_unread, harg2.read_unread, harg3.read_unread, harg4.read_unread, harg5.read_unread, harg6.read_unread, View.ld_unit_zero (S := S32x65x65) hz3, View.ld_unit_zero (S := S32x64) hz2, View.ld_unit_zero (S := S32x3x64) hz3, e3]
  rfl

/-- The block of target points of the three picks. -/
def res8B (x0 : Vec F S32x65x65 .f32) (x1 x2 : Vec F S32x64 .f32) (x3 : Vec F S1x1 .f32) (x4 : Vec F S32x3x64 .f32) : FVec F S32x3x3 .f32 :=
  k0_pay44 (iota .tc S32x3x3 32 [1] iota_S32x3x3_d1_w32) (k0_pay35 (iota .tc S32x3x3 32 [1] iota_S32x3x3_d1_w32) (k0_pay25 k0_pay14 (iota .tc S32x3x3 32 [1] iota_S32x3x3_d1_w32) k0_pay16 (k0_pay20 (k0_pay1 x1) (k0_pay2 x2) (outB x0 x1 x2 x3)) k0_pay22 x4) (k0_pay32 k0_pay13 k0_pay14 (fm1B x0 x1 x2 x3) x4)) (k0_pay41 x4) (FloatOps.ofBits .f32 0#32) (k0_pay42 k0_pay13 k0_pay14 (fm2B x0 x1 x2 x3))

/-- The point's block of target points of the three picks. -/
theorem out8 (c : Dev nD) (i : grid0.Coords) (arg1 : Memref sig .tc .vmem S32x65x65 .f32) (harg1 : arg1.IsWhole) (arg2 : Memref sig .tc .vmem S32x64 .f32) (harg2 : arg2.IsWhole) (arg3 : Memref sig .tc .vmem S32x64 .f32) (harg3 : arg3.IsWhole) (arg4 : Memref sig .tc .smem S1x1 .f32) (harg4 : arg4.IsWhole) (arg5 : Memref sig .tc .vmem S32x3x64 .f32) (harg5 : arg5.IsWhole) (arg6 : Memref sig .tc .vmem S32x3x64 .f32) (harg6 : arg6.IsWhole) (arg7 : Memref sig .tc .vmem S32x65x65 .f32) (harg7 : arg7.IsWhole) (arg8 : Memref sig .tc .vmem S32x3 .f32) (harg8 : arg8.IsWhole) (arg9 : Memref sig .tc .vmem S32x3x3 .f32) (harg9 : arg9.IsWhole) (arg10 : Memref sig .tc .vmem S32x3x3 .f32) (harg10 : arg10.IsWhole) (x0 : Vec F S32x65x65 .f32) (x1 : Vec F S32x64 .f32) (x2 : Vec F S32x64 .f32) (x3 : Vec F S1x1 .f32) (x4 : Vec F S32x3x64 .f32) (x5 : Vec F S32x3x64 .f32) :
    out0_A_8 c i arg1 harg1 arg2 harg2 arg3 harg3 arg4 harg4 arg5 harg5 arg6 harg6 arg7 harg7 arg8 harg8 arg9 harg9 arg10 harg10 x0 x1 x2 x3 x4 x5 = res8B x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  have e3 : View.ld x3 (Rect.unit ![0, 0] ![1, 1] inb_S1x1_S1x1_0_0) (Shape.Idx.first numel1_S1x1.symm.le) = x3 (Shape.Idx.first numel1_S1x1.symm.le) :=
    congrFun (View.ld_unit_zero (S := S1x1) hz2 _ x3) _
  simp only [View.readAt_eq_ld, harg1.read_unread, harg2.read_unread, harg3.read_unread, harg4.read_unread, harg5.read_unread, harg6.read_unread, View.ld_unit_zero (S := S32x65x65) hz3, View.ld_unit_zero (S := S32x64) hz2, View.ld_unit_zero (S := S32x3x64) hz3, e3]
  rfl

/-- The block of source points of the three picks. -/
def res9B (x0 : Vec F S32x65x65 .f32) (x1 x2 : Vec F S32x64 .f32) (x3 : Vec F S1x1 .f32) (x5 : Vec F S32x3x64 .f32) : FVec F S32x3x3 .f32 :=
  k0_pay45 k0_pay14 (iota .tc S32x3x3 32 [1] iota_S32x3x3_d1_w32) (k0_pay36 (iota .tc S32x3x3 32 [1] iota_S32x3x3_d1_w32) (k0_pay26 k0_pay14 (iota .tc S32x3x3 32 [1] iota_S32x3x3_d1_w32) k0_pay17 (k0_pay20 (k0_pay1 x1) (k0_pay2 x2) (outB x0 x1 x2 x3)) k0_pay22 x5) (k0_pay33 k0_pay13 k0_pay14 (fm1B x0 x1 x2 x3) x5)) (k0_pay40 k0_pay13 (fm2B x0 x1 x2 x3)) x5

/-- The point's block of source points of the three picks. -/
theorem out9 (c : Dev nD) (i : grid0.Coords) (arg1 : Memref sig .tc .vmem S32x65x65 .f32) (harg1 : arg1.IsWhole) (arg2 : Memref sig .tc .vmem S32x64 .f32) (harg2 : arg2.IsWhole) (arg3 : Memref sig .tc .vmem S32x64 .f32) (harg3 : arg3.IsWhole) (arg4 : Memref sig .tc .smem S1x1 .f32) (harg4 : arg4.IsWhole) (arg5 : Memref sig .tc .vmem S32x3x64 .f32) (harg5 : arg5.IsWhole) (arg6 : Memref sig .tc .vmem S32x3x64 .f32) (harg6 : arg6.IsWhole) (arg7 : Memref sig .tc .vmem S32x65x65 .f32) (harg7 : arg7.IsWhole) (arg8 : Memref sig .tc .vmem S32x3 .f32) (harg8 : arg8.IsWhole) (arg9 : Memref sig .tc .vmem S32x3x3 .f32) (harg9 : arg9.IsWhole) (arg10 : Memref sig .tc .vmem S32x3x3 .f32) (harg10 : arg10.IsWhole) (x0 : Vec F S32x65x65 .f32) (x1 : Vec F S32x64 .f32) (x2 : Vec F S32x64 .f32) (x3 : Vec F S1x1 .f32) (x4 : Vec F S32x3x64 .f32) (x5 : Vec F S32x3x64 .f32) :
    out0_A_9 c i arg1 harg1 arg2 harg2 arg3 harg3 arg4 harg4 arg5 harg5 arg6 harg6 arg7 harg7 arg8 harg8 arg9 harg9 arg10 harg10 x0 x1 x2 x3 x4 x5 = res9B x0 x1 x2 x3 x5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  have e3 : View.ld x3 (Rect.unit ![0, 0] ![1, 1] inb_S1x1_S1x1_0_0) (Shape.Idx.first numel1_S1x1.symm.le) = x3 (Shape.Idx.first numel1_S1x1.symm.le) :=
    congrFun (View.ld_unit_zero (S := S1x1) hz2 _ x3) _
  simp only [View.readAt_eq_ld, harg1.read_unread, harg2.read_unread, harg3.read_unread, harg4.read_unread, harg5.read_unread, harg6.read_unread, View.ld_unit_zero (S := S32x65x65) hz3, View.ld_unit_zero (S := S32x64) hz2, View.ld_unit_zero (S := S32x3x64) hz3, e3]
  rfl

end Cert.KernelIdeal.Blk

end
-- ==== Proof.Lse.lean ====
/-
  The scalar mathematics of one batch entry of the optimal transport: the stabilised log-sum-exp in the kernel's spelling
  and in the reference's, equal on finite values, and what keeps every value finite.
-/
module

public import Idealize.ShloMosaic.Lib.Pointwise

@[expose] public section

noncomputable section
open Idealize.ShloMosaic
namespace Cert.Ot

/-- A finite extended real. -/
def Fi (x : EReal) : Prop := ∃ r : ℝ, x = (r : EReal)

theorem Fi.coe (r : ℝ) : Fi (r : EReal) := ⟨r, rfl⟩
theorem Fi.zero : Fi 0 := ⟨0, rfl⟩
theorem Fi.one : Fi 1 := ⟨1, rfl⟩
theorem Fi.add {x y : EReal} : Fi x → Fi y → Fi (x + y)
  | ⟨a, ha⟩, ⟨b, hb⟩ => ⟨a + b, by rw [ha, hb, EReal.coe_add]⟩
theorem Fi.mul {x y : EReal} : Fi x → Fi y → Fi (x * y)
  | ⟨a, ha⟩, ⟨b, hb⟩ => ⟨a * b, by rw [ha, hb, EReal.coe_mul]⟩
theorem Fi.sub {x y : EReal} : Fi x → Fi y → Fi (x - y)
  | ⟨a, ha⟩, ⟨b, hb⟩ => ⟨a - b, by rw [ha, hb, EReal.coe_sub]⟩
theorem Fi.neg {x : EReal} : Fi x → Fi (-x)
  | ⟨a, ha⟩ => ⟨-a, by rw [ha, EReal.coe_neg]⟩
theorem Fi.max {x y : EReal} (hx : Fi x) (hy : Fi y) : Fi (max x y) := by
  rcases le_total x y with h | h
  · rwa [max_eq_right h]
  · rwa [max_eq_left h]
theorem Fi.sum {ι : Type} (s : Finset ι) (f : ι → EReal) (h : ∀ i, Fi (f i)) : Fi (∑ i ∈ s, f i) := by
  classical
  induction s using Finset.induction_on with
  | empty => exact Fi.zero
  | insert a s ha ih => rw [Finset.sum_insert ha]; exact (h a).add ih
/-- The logarithm of a positive finite number is finite. -/
theorem Fi.log {x : EReal} (hx : Fi x) (h : 0 < x) : Fi (Ideal.log x) := by
  obtain ⟨r, rfl⟩ := hx
  have hr : 0 < r := by exact_mod_cast h
  rw [Ideal.log_coe, if_neg (not_le.mpr hr)]
  exact Fi.coe _
theorem Fi.exp {x : EReal} (hx : Fi x) : Fi (Ideal.exp x) := by
  obtain ⟨r, rfl⟩ := hx
  exact Fi.coe _
theorem exp_pos_of_fi {x : EReal} (hx : Fi x) : 0 < Ideal.exp x := by
  obtain ⟨r, rfl⟩ := hx
  rw [Ideal.exp_coe]
  exact_mod_cast Real.exp_pos r
theorem exp_nonneg (x : EReal) : 0 ≤ Ideal.exp x := by
  induction x with
  | bot => exact le_refl _
  | top => exact le_top
  | coe r => rw [Ideal.exp_coe]; exact_mod_cast (Real.exp_pos r).le
/-- Below infinity in absolute value means finite. -/
theorem fi_of_abs_lt {x : EReal} (h : max x (-x) < ⊤) : Fi x := by
  induction x with
  | bot => simp at h
  | top => simp at h
  | coe r => exact Fi.coe r
theorem abs_lt_of_fi {x : EReal} (h : Fi x) : max x (-x) < ⊤ := by
  obtain ⟨r, rfl⟩ := h
  rw [← EReal.coe_neg]
  exact max_lt (EReal.coe_lt_top _) (EReal.coe_lt_top _)
theorem abs_of_nonneg' {x : EReal} (h : 0 ≤ x) : max x (-x) = x :=
  max_eq_left ((EReal.neg_le_neg_iff.mpr h).trans (by simpa using h))

variable {ι : Type} [Fintype ι]

/-- The largest value of a family. -/
def top (f : ι → EReal) : EReal := Finset.univ.fold max ⊥ f

theorem le_top_fam (f : ι → EReal) (i : ι) : f i ≤ top f :=
  (Finset.le_fold_max _).mpr (Or.inr ⟨i, Finset.mem_univ _, le_refl _⟩)

/-- The largest value is one of the values. -/
theorem exists_top [Nonempty ι] (f : ι → EReal) : ∃ i, f i = top f := by
  obtain ⟨i, -, hi⟩ := Finset.exists_max_image Finset.univ f ⟨Classical.arbitrary ι, Finset.mem_univ _⟩
  exact ⟨i, le_antisymm (le_top_fam f i) (Finset.fold_max_le _ |>.mpr ⟨bot_le, fun j hj => hi j hj⟩)⟩

/-- Log-sum-exp, the largest value subtracted inside. -/
def lse (f : ι → EReal) : EReal := Ideal.log (∑ i, Ideal.exp (f i - top f)) + top f

/-- What log-sum-exp subtracts where the largest value might be infinite: then zero. -/
def cut (M : EReal) : EReal := if max M (-M) < ⊤ then M else 0

/-- Log-sum-exp as a library spells it: an infinite largest value is replaced by zero, and the sum is taken in absolute
    value. -/
def hlse (f : ι → EReal) : EReal :=
  Ideal.log (max (∑ i, Ideal.exp (f i - cut (top f))) (-∑ i, Ideal.exp (f i - cut (top f)))) + cut (top f)

theorem fi_top [Nonempty ι] {f : ι → EReal} (h : ∀ i, Fi (f i)) : Fi (top f) := by
  obtain ⟨i, hi⟩ := exists_top f
  rw [← hi]; exact h i

/-- On finite values the two spellings agree. -/
theorem hlse_eq [Nonempty ι] {f : ι → EReal} (h : ∀ i, Fi (f i)) : hlse f = lse f := by
  have e : cut (top f) = top f := if_pos (abs_lt_of_fi (fi_top h))
  unfold hlse lse
  rw [e, abs_of_nonneg' (Finset.sum_nonneg fun i _ => exp_nonneg _)]

/-- Log-sum-exp of finite values is finite. -/
theorem fi_lse [Nonempty ι] {f : ι → EReal} (h : ∀ i, Fi (f i)) : Fi (lse f) := by
  have hM := fi_top h
  refine Fi.add (Fi.log (Fi.sum _ _ fun i => ((h i).sub hM).exp) ?_) hM
  have i0 : ι := Classical.arbitrary ι
  exact lt_of_lt_of_le (exp_pos_of_fi ((h i0).sub hM))
    (Finset.single_le_sum (f := fun i => Ideal.exp (f i - top f)) (fun i _ => exp_nonneg _) (Finset.mem_univ i0))

/-! ## One batch entry -/

/-- A mask with the dustbin's entry, which is always set. -/
def On (w : Fin 64 → BitVec 1) (i : Fin 65) : Prop := if h : i.val < 64 then w ⟨i.val, h⟩ = 1#1 else True
instance (w : Fin 64 → BitVec 1) (i : Fin 65) : Decidable (On w i) := by unfold On; infer_instance

/-- One for a set bit, zero for a clear one. -/
def ind (w : BitVec 1) : EReal := if w = 1#1 then 1 else 0

/-- The number of points a mask keeps, at least one. -/
def cnt (w : Fin 64 → BitVec 1) : EReal := max (∑ i, ind (w i)) 1

/-- The normalising constant: minus the logarithm of the two counts together. -/
def nrm (tm sm : Fin 64 → BitVec 1) : EReal := -Ideal.log (cnt tm + cnt sm)

/-- The log marginal of a side whose other side's mask is `w`: the constant, and at the dustbin the other side's count
    too. -/
def marg (n : EReal) (w : Fin 64 → BitVec 1) (i : Fin 65) : EReal := if i.val = 64 then Ideal.log (cnt w) + n else n

/-- The padded and masked scores: the scores, the dustbin's score in the last row and column, and a large negative
    number `big` off the masks. -/
def padd (sc : Fin 64 → Fin 64 → EReal) (al big : EReal) (tm sm : Fin 64 → BitVec 1) (i j : Fin 65) : EReal :=
  if On tm i ∧ On sm j then (if h : i.val < 64 ∧ j.val < 64 then sc ⟨i.val, h.1⟩ ⟨j.val, h.2⟩ else al) else big

/-- One round with a given log-sum-exp: new row potentials, then new column potentials from them. -/
def rnd (L : (Fin 65 → EReal) → EReal) (p : Fin 65 → Fin 65 → EReal) (mu nu : Fin 65 → EReal)
    (s : (Fin 65 → EReal) × (Fin 65 → EReal)) : (Fin 65 → EReal) × (Fin 65 → EReal) :=
  let u := fun i => mu i - L fun j => p i j + s.2 j
  (u, fun j => nu j - L fun i => p i j + u i)

/-- The potentials after `n` rounds from zero. -/
def pots (L : (Fin 65 → EReal) → EReal) (p : Fin 65 → Fin 65 → EReal) (mu nu : Fin 65 → EReal) (n : ℕ) :
    (Fin 65 → EReal) × (Fin 65 → EReal) := (rnd L p mu nu)^[n] (fun _ => 0, fun _ => 0)

/-- With finite scores and marginals, the potentials stay finite and the two spellings of log-sum-exp give the same ones. -/
theorem pots_eq {p : Fin 65 → Fin 65 → EReal} {mu nu : Fin 65 → EReal} (hp : ∀ i j, Fi (p i j)) (hmu : ∀ i, Fi (mu i))
    (hnu : ∀ j, Fi (nu j)) (n : ℕ) :
    pots hlse p mu nu n = pots lse p mu nu n ∧ (∀ i, Fi ((pots lse p mu nu n).1 i)) ∧ ∀ j, Fi ((pots lse p mu nu n).2 j) := by
  induction n with
  | zero => exact ⟨rfl, fun _ => Fi.zero, fun _ => Fi.zero⟩
  | succ n ih =>
    obtain ⟨e, h1, h2⟩ := ih
    have hu : ∀ i, Fi (mu i - lse fun j => p i j + (pots lse p mu nu n).2 j) := fun i =>
      (hmu i).sub (fi_lse fun j => (hp i j).add (h2 j))
    have el : pots lse p mu nu (n + 1) = rnd lse p mu nu (pots lse p mu nu n) := Function.iterate_succ_apply' _ _ _
    have eh : pots hlse p mu nu (n + 1) = rnd hlse p mu nu (pots hlse p mu nu n) := Function.iterate_succ_apply' _ _ _
    have eu : (fun i => mu i - hlse fun j => p i j + (pots lse p mu nu n).2 j) = fun i => mu i - lse fun j => p i j + (pots lse p mu nu n).2 j :=
      funext fun i => by rw [hlse_eq fun j => (hp i j).add (h2 j)]
    refine ⟨?_, ?_, ?_⟩
    · rw [el, eh, e]
      unfold rnd
      dsimp only
      refine Prod.ext eu (funext fun j => ?_)
      have ev : (fun i => p i j + (mu i - hlse fun j => p i j + (pots lse p mu nu n).2 j))
          = fun i => p i j + (mu i - lse fun j => p i j + (pots lse p mu nu n).2 j) :=
        funext fun i => by rw [hlse_eq fun j => (hp i j).add (h2 j)]
      show nu j - hlse (fun i => p i j + (mu i - hlse fun j => p i j + (pots lse p mu nu n).2 j)) = nu j - lse _
      rw [ev, hlse_eq fun i => (hp i j).add (hu i)]
    · rw [el]; exact hu
    · rw [el]; intro j; exact (hnu j).sub (fi_lse fun i => (hp i j).add (hu i))

theorem fi_ind (w : BitVec 1) : Fi (ind w) := by unfold ind; split_ifs; exacts [Fi.one, Fi.zero]
theorem fi_cnt (w : Fin 64 → BitVec 1) : Fi (cnt w) := (Fi.sum _ _ fun i => fi_ind _).max Fi.one
theorem cnt_pos (w : Fin 64 → BitVec 1) : 0 < cnt w := lt_of_lt_of_le zero_lt_one (le_max_right _ _)
theorem fi_nrm (tm sm : Fin 64 → BitVec 1) : Fi (nrm tm sm) :=
  (((fi_cnt tm).add (fi_cnt sm)).log (add_pos_of_pos_of_nonneg (cnt_pos tm) (cnt_pos sm).le)).neg
theorem fi_marg {n : EReal} (hn : Fi n) (w : Fin 64 → BitVec 1) (i : Fin 65) : Fi (marg n w i) := by
  unfold marg; split_ifs
  · exact ((fi_cnt w).log (cnt_pos w)).add hn
  · exact hn
theorem fi_padd {sc : Fin 64 → Fin 64 → EReal} {al big : EReal} (hs : ∀ i j, Fi (sc i j)) (ha : Fi al) (hb : Fi big)
    (tm sm : Fin 64 → BitVec 1) (i j : Fin 65) : Fi (padd sc al big tm sm i j) := by
  unfold padd; split_ifs
  exacts [hs _ _, ha, hb]

/-- The log assignments with a given log-sum-exp. -/
def assign (L : (Fin 65 → EReal) → EReal) (sc : Fin 64 → Fin 64 → EReal) (al big : EReal) (tm sm : Fin 64 → BitVec 1) (i j : Fin 65) : EReal :=
  let p := padd sc al big tm sm
  let s := pots L p (marg (nrm tm sm) sm) (marg (nrm tm sm) tm) 100
  p i j + s.1 i + s.2 j - nrm tm sm

/-- With finite scores the log assignments do not depend on the spelling of log-sum-exp. -/
theorem assign_eq {sc : Fin 64 → Fin 64 → EReal} {al big : EReal} (hs : ∀ i j, Fi (sc i j)) (ha : Fi al) (hb : Fi big)
    (tm sm : Fin 64 → BitVec 1) : assign hlse sc al big tm sm = assign lse sc al big tm sm := by
  unfold assign
  dsimp only
  rw [(pots_eq (fi_padd hs ha hb tm sm) (fi_marg (fi_nrm tm sm) sm) (fi_marg (fi_nrm tm sm) tm) 100).1]

/-- The assignments a pick is made from: those of two kept points, zero for the rest. -/
def kept (out : Fin 65 → Fin 65 → EReal) (tm sm : Fin 64 → BitVec 1) (i j : Fin 64) : EReal :=
  if tm i = 1#1 ∧ sm j = 1#1 then Ideal.exp (out ⟨i.val, by omega⟩ ⟨j.val, by omega⟩) else 0

theorem kept_nonneg (out : Fin 65 → Fin 65 → EReal) (tm sm : Fin 64 → BitVec 1) (i j : Fin 64) : 0 ≤ kept out tm sm i j := by
  unfold kept; split_ifs
  · exact exp_nonneg _
  · exact le_refl _

end Cert.Ot
end
-- ==== Proof.Top.lean ====
/-
  Rounds of "take the largest entry of a table, the first one where it occurs more than once, and strike it out" pick the
  first positions of the stable sort of the flattened table in descending order.
-/
module

public import proofs.«01_k».proof.Proof.Lse
public import Idealize.ShloMosaic.Lib.SortPrefix

@[expose] public section

noncomputable section
open Idealize.ShloMosaic
namespace Cert.Ot

/-- Row and column of a flat position, and back. -/
def row (p : Fin 4096) : Fin 64 := ⟨p.val / 64, by omega⟩
def col (p : Fin 4096) : Fin 64 := ⟨p.val % 64, by omega⟩
def flat (i j : Fin 64) : Fin 4096 := ⟨i.val * 64 + j.val, by omega⟩
theorem row_flat (i j : Fin 64) : row (flat i j) = i := Fin.ext (by simp only [row, flat]; omega)
theorem col_flat (i j : Fin 64) : col (flat i j) = j := Fin.ext (by simp only [col, flat]; omega)
theorem flat_row_col (p : Fin 4096) : flat (row p) (col p) = p := Fin.ext (by simp only [row, col, flat]; omega)

/-! ## Rounds over a flat table of any size -/

variable {N : ℕ}

/-- `p` is the first position of the largest entry of `G`. -/
def Picks (G : Fin N → EReal) (p : Fin N) : Prop := (∀ q, G q ≤ G p) ∧ ∀ q, G q = G p → p ≤ q

theorem exists_picks [NeZero N] (G : Fin N → EReal) : ∃ p, Picks G p := by
  classical
  obtain ⟨a, -, ha⟩ := Finset.exists_max_image Finset.univ G ⟨⟨0, Nat.pos_of_ne_zero (NeZero.ne N)⟩, Finset.mem_univ _⟩
  have hne : (Finset.univ.filter fun q => G q = G a).Nonempty := ⟨a, by simp⟩
  obtain ⟨p, hp, hmin⟩ := Finset.exists_min_image _ id hne
  have e : G p = G a := by simpa using hp
  exact ⟨p, fun q => e ▸ ha q (Finset.mem_univ _), fun q hq => hmin q (by simp [hq, e])⟩

/-- The position a round takes. -/
def pick [NeZero N] (G : Fin N → EReal) : Fin N := (exists_picks G).choose
theorem picks_pick [NeZero N] (G : Fin N → EReal) : Picks G (pick G) := (exists_picks G).choose_spec
theorem Picks.unique {G : Fin N → EReal} {p q : Fin N} (hp : Picks G p) (hq : Picks G q) : p = q := by
  have e : G p = G q := le_antisymm (hq.1 p) (hp.1 q)
  exact le_antisymm (hp.2 q e.symm) (hq.2 p e)

/-- The table with one position struck out: −1 is below every entry. -/
def strike (G : Fin N → EReal) (p : Fin N) : Fin N → EReal := Function.update G p (-1)

/-- The tables before each round, and what the rounds pick. -/
def tab [NeZero N] (G : Fin N → EReal) : ℕ → Fin N → EReal
  | 0 => G
  | n + 1 => strike (tab G n) (pick (tab G n))
def sel [NeZero N] (G : Fin N → EReal) (n : ℕ) : Fin N := pick (tab G n)

/-- A table's entry before round `n`: −1 where an earlier round picked, else the original one. -/
theorem tab_of_picked [NeZero N] (G : Fin N → EReal) (n : ℕ) (q : Fin N) (h : ∃ k < n, sel G k = q) : tab G n q = -1 := by
  induction n with
  | zero => obtain ⟨k, hk, -⟩ := h; omega
  | succ n ih =>
    show Function.update (tab G n) (pick (tab G n)) (-1) q = -1
    by_cases e : q = pick (tab G n)
    · rw [e, Function.update_self]
    · rw [Function.update_of_ne e]
      obtain ⟨k, hk, hq⟩ := h
      refine ih ⟨k, ?_, hq⟩
      rcases Nat.lt_succ_iff_lt_or_eq.mp hk with h | rfl
      · exact h
      · exact absurd hq.symm e

theorem tab_of_not_picked [NeZero N] (G : Fin N → EReal) (n : ℕ) (q : Fin N) (h : ∀ k < n, sel G k ≠ q) : tab G n q = G q := by
  induction n with
  | zero => rfl
  | succ n ih =>
    show Function.update (tab G n) (pick (tab G n)) (-1) q = G q
    rw [Function.update_of_ne fun e : q = pick (tab G n) => h n (Nat.lt_succ_self n) e.symm]
    exact ih fun k hk => h k (Nat.lt_succ_of_lt hk)

theorem neg_one_lt_zero' : (-1 : EReal) < 0 := by
  have h : ((-1 : ℝ) : EReal) < ((0 : ℝ) : EReal) := EReal.coe_lt_coe_iff.mpr (by norm_num)
  rwa [EReal.coe_neg, EReal.coe_one, EReal.coe_zero] at h

variable [NeZero N] {G : Fin N → EReal} (hG : ∀ q, 0 ≤ G q)
include hG

/-- A later round never picks what an earlier one picked. -/
theorem sel_ne (n : ℕ) (hn : n < N) (k : ℕ) (hk : k < n) : sel G k ≠ sel G n := by
  intro e
  have h1 : tab G n (sel G n) = -1 := tab_of_picked G n _ ⟨k, hk, e⟩
  have hex : ∃ q : Fin N, ∀ k < n, sel G k ≠ q := by
    by_contra hc
    push Not at hc
    have hs : Function.Surjective fun k : Fin n => sel G k.val := fun q => by
      obtain ⟨k, hk, e⟩ := hc q
      exact ⟨⟨k, hk⟩, e⟩
    have := Fintype.card_le_of_surjective _ hs
    simp only [Fintype.card_fin] at this
    omega
  obtain ⟨q, hq⟩ := hex
  have h2 := (picks_pick (tab G n)).1 q
  rw [tab_of_not_picked G n q hq] at h2
  have h3 : (0 : EReal) ≤ -1 := (hG q).trans (h2.trans (le_of_eq h1))
  exact absurd h3 (not_le.mpr neg_one_lt_zero')

theorem tab_sel (n : ℕ) (hn : n < N) : tab G n (sel G n) = G (sel G n) :=
  tab_of_not_picked G n _ fun k hk => sel_ne hG n hn k hk

/-- A position no earlier round picked does not precede the round's pick. -/
theorem sel_first (n : ℕ) (hn : n < N) (q : Fin N) (hq : ∀ k < n, sel G k ≠ q) :
    G q ≤ G (sel G n) ∧ (G q = G (sel G n) → sel G n ≤ q) := by
  have h := picks_pick (tab G n)
  have e := tab_of_not_picked G n q hq
  have e' := tab_sel hG n hn
  refine ⟨?_, fun hh => ?_⟩
  · rw [← e, ← e']; exact h.1 q
  · exact h.2 q (by rw [e, hh]; exact e'.symm)

/-- The stable sort of the flat table by value, descending, has the rounds' picks as its first positions. -/
theorem sortedFrom_sel {K : ℕ} (hK : K ≤ N) (n : Fin K) : sortedFrom (fun p q => decide (G q < G p)) (n.castLE hK) = sel G n.val := by
  classical
  let B : Fin N → Fin N → Bool := fun p q => decide (G q < G p) || (decide (G p = G q) && decide (p < q))
  have hB : StrictTotalBefore B := StrictTotalBefore.of_key_then_position (fun a b : EReal => decide (b < a)) G
    (fun a => by simp) (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  have hBf : ∀ p q, B p q = false ↔ ¬ (G q < G p ∨ (G p = G q ∧ p < q)) := fun p q => by
    rw [← Bool.not_eq_true]; simp [B]
  have key := hB.sortedFrom_eq_of_prefix (k := K) hK (fun k => sel G k.val)
    (fun a b e => by
      rcases lt_trichotomy a.val b.val with h | h | h
      · exact absurd e (sel_ne hG b.val (b.isLt.trans_le hK) a.val h)
      · exact Fin.ext h
      · exact absurd e.symm (sel_ne hG a.val (a.isLt.trans_le hK) b.val h))
    (fun i j hij => by
      have := sel_first hG i.val (i.isLt.trans_le hK) (sel G j.val) fun k hk => sel_ne hG j.val (j.isLt.trans_le hK) k (by have := Fin.lt_def.mp hij; omega)
      rw [hBf]
      rintro (h | ⟨h, h'⟩)
      · exact absurd this.1 (not_le.mpr h)
      · exact absurd (this.2 h) (not_le.mpr h'))
    (fun i p hp => by
      have := sel_first hG i.val (i.isLt.trans_le hK) p fun k hk => hp ⟨k, by omega⟩
      rw [hBf]
      rintro (h | ⟨h, h'⟩)
      · exact absurd this.1 (not_le.mpr h)
      · exact absurd (this.2 h) (not_le.mpr h')) n
  rw [← key]
  have hpos : sortPositions N (fun p q => decide (G q < G p)) = sortPositions N B := by
    refine hB.eq_stableSort_of_sorted (perm_sortPositions _ _) ?_
    -- the stable sort by value leaves equal values in position order
    have hlex : ∀ l : List (Fin N), l.Pairwise (· < ·) →
        (stableSort (fun p q => decide (G q < G p)) l).Pairwise fun a b => B b a = false := by
      intro l
      induction l with
      | nil => intro _; exact List.Pairwise.nil
      | cons a l ih =>
        intro hl
        rw [List.pairwise_cons] at hl
        have ihl := ih hl.2
        have hmem : ∀ b ∈ stableSort (fun p q => decide (G q < G p)) l, a < b := fun b hb =>
          hl.1 b ((perm_stableSort _ l).mem_iff.mp hb)
        show (insertBefore _ a (stableSort _ l)).Pairwise _
        generalize stableSort (fun p q => decide (G q < G p)) l = s at ihl hmem
        induction s with
        | nil => exact List.pairwise_singleton _ _
        | cons b s ihs =>
          unfold insertBefore
          rw [List.pairwise_cons] at ihl
          split
          · rename_i hba
            have hba' : G a < G b := by simpa using hba
            refine List.pairwise_cons.mpr ⟨fun x hx => ?_, ihs ihl.2 fun x hx => hmem x (List.mem_cons_of_mem _ hx)⟩
            rcases List.mem_cons.mp ((perm_insertBefore _ a s).mem_iff.mp hx) with rfl | hx'
            · rw [hBf]; rintro (h | ⟨h, -⟩)
              · exact absurd h (not_lt.mpr hba'.le)
              · exact absurd h (ne_of_lt hba')
            · exact ihl.1 x hx'
          · rename_i hba
            have hba' : G b ≤ G a := by simpa using hba
            refine List.pairwise_cons.mpr ⟨fun x hx => ?_, List.pairwise_cons.mpr ihl⟩
            have hax := hmem x hx
            have hxb : G x ≤ G b := by
              rcases List.mem_cons.mp hx with rfl | hx'
              · exact le_refl _
              · have := ihl.1 x hx'
                rw [hBf] at this
                exact not_lt.mp fun h => this (Or.inl h)
            rw [hBf]; rintro (h | ⟨-, h⟩)
            · exact absurd h (not_lt.mpr (hxb.trans hba'))
            · exact absurd h (not_lt.mpr hax.le)
    exact hlex _ (List.pairwise_lt_finRange N)
  unfold sortedFrom
  rw [List.get_of_eq hpos]
  rfl

end Cert.Ot
end
-- ==== Proof.Round.lean ====
/-
  The kernel's three rounds, read on one batch entry: a round's masked maximum and minimum are the value and the flat
  position of the table's pick, the strike-out gives the next round's table, and the one-hot sums read the picked points.
-/
module

public import proofs.«01_k».proof.Proof.Block
public import proofs.«01_k».proof.Proof.Top
public import Idealize.ShloMosaic.Lib.Pointwise

@[expose] public section

noncomputable section
open Idealize.ShloMosaic Idealize.ShloMosaic.TcCoe Idealize.SL.Sem
namespace Cert.KernelIdeal.Blk
open Cert.KernelIdeal Cert.KernelIdeal.Gen Cert.Ot

/-! ## Constants -/

theorem c_bot : Ideal.ofBits .f32 4286578688#32 = ⊥ := by simp [Ideal.ofBits, Ideal.ieee]
theorem c_top : Ideal.ofBits .f32 2139095040#32 = ⊤ := by simp [Ideal.ofBits, Ideal.ieee]
theorem c_far : Ideal.ofBits .f32 1301220632#32 = ((300000000 : ℝ) : EReal) := by
  simp [Ideal.ofBits, Ideal.ieee, -EReal.coe_mul]; norm_num
theorem c_64th : Ideal.ofBits .f32 1015021568#32 = ((1/64 : ℝ) : EReal) := by
  simp [Ideal.ofBits, Ideal.ieee, -EReal.coe_mul]; norm_num
theorem c_64 : Ideal.ofBits .f32 1115684864#32 = ((64 : ℝ) : EReal) := by
  simp [Ideal.ofBits, Ideal.ieee, -EReal.coe_mul]; norm_num
theorem c_half : Ideal.ofBits .f32 1056964608#32 = ((1/2 : ℝ) : EReal) := by
  simp [Ideal.ofBits, Ideal.ieee, -EReal.coe_mul]; norm_num
theorem c_negOne : Ideal.ofBits .f32 3212836864#32 = -1 := by
  rw [show (-1 : EReal) = ((-1 : ℝ) : EReal) by rw [EReal.coe_neg, EReal.coe_one]]
  simp [Ideal.ofBits, Ideal.ieee, -EReal.coe_mul, -EReal.coe_neg]; norm_num
theorem c_big : Ideal.ofBits .f32 3351465984#32 = ((-100000 : ℝ) : EReal) := by
  simp [Ideal.ofBits, Ideal.ieee, -EReal.coe_mul, -EReal.coe_neg]; norm_num

/-! ## Nested reductions -/

variable {T : Fin 64 → Fin 64 → EReal}

/-- The maximum over columns, then rows, is the picked entry. -/
theorem max_rows (T : Fin 64 → Fin 64 → EReal) :
    Finset.univ.fold max ⊥ (fun i => Finset.univ.fold max ⊥ fun j => T i j)
      = T (row (pick fun p => T (row p) (col p))) (col (pick fun p => T (row p) (col p))) := by
  have h := (picks_pick fun p => T (row p) (col p)).1
  refine le_antisymm ?_ ?_
  · refine (Finset.fold_max_le _).mpr ⟨bot_le, fun i _ => (Finset.fold_max_le _).mpr ⟨bot_le, fun j _ => ?_⟩⟩
    have := h (flat i j)
    simpa only [row_flat, col_flat] using this
  · exact (Finset.le_fold_max _).mpr (Or.inr ⟨_, Finset.mem_univ _, (Finset.le_fold_max _).mpr (Or.inr ⟨_, Finset.mem_univ _, le_refl _⟩)⟩)

theorem le_far (p : Fin 4096) : (((p.val : ℕ) : ℝ) : EReal) ≤ ((300000000 : ℝ) : EReal) := by
  have h : ((p.val : ℕ) : ℝ) ≤ 300000000 := by
    have : p.val ≤ 300000000 := by omega
    exact_mod_cast this
  exact_mod_cast h

/-- The minimum over the flat positions of the maximal entries is the picked position. -/
theorem min_rows (T : Fin 64 → Fin 64 → EReal) (M : EReal)
    (hM : M = T (row (pick fun p => T (row p) (col p))) (col (pick fun p => T (row p) (col p)))) :
    Finset.univ.fold min ⊤ (fun i => Finset.univ.fold min ⊤ fun j =>
        if T i j = M then (((i.val * 64 + j.val : ℕ) : ℝ) : EReal) else ((300000000 : ℝ) : EReal))
      = (((pick fun p => T (row p) (col p)).val : ℝ) : EReal) := by
  have h := (picks_pick fun p => T (row p) (col p)).2
  have hf := flat_row_col (pick fun p => T (row p) (col p))
  refine le_antisymm ?_ ?_
  · refine (Finset.fold_min_le _).mpr (Or.inr ⟨row (pick fun p => T (row p) (col p)), Finset.mem_univ _,
      (Finset.fold_min_le _).mpr (Or.inr ⟨col (pick fun p => T (row p) (col p)), Finset.mem_univ _, ?_⟩)⟩)
    rw [if_pos hM.symm]
    have e := congrArg Fin.val hf
    simp only [flat] at e
    rw [e]
  · refine (Finset.le_fold_min _).mpr ⟨le_top, fun i _ => (Finset.le_fold_min _).mpr ⟨le_top, fun j _ => ?_⟩⟩
    by_cases hij : T i j = M
    · rw [if_pos hij]
      have := h (flat i j) (by simp only [row_flat, col_flat]; rw [hij, hM])
      have h2 : (pick fun p => T (row p) (col p)).val ≤ i.val * 64 + j.val := this
      have h3 : (((pick fun p => T (row p) (col p)).val : ℕ) : ℝ) ≤ ((i.val * 64 + j.val : ℕ) : ℝ) := by exact_mod_cast h2
      exact_mod_cast h3
    · rw [if_neg hij]; exact le_far _

/-! ## The positions' words as numbers -/

theorem flat_word : ∀ i j : Fin 64, (IntOp.addi (IntOp.muli (BitVec.ofNat 32 i.val) 64#32) (BitVec.ofNat 32 j.val)).toInt = (i.val * 64 + j.val : ℕ) := by
  decide +kernel
theorem index_word : ∀ i : Fin 64, (BitVec.ofNat 32 i.val).toInt = (i.val : ℕ) := by decide +kernel

theorem flat_entry (b : Fin 32) (i j : Fin 64) : k0_pay13 (F := Ideal) (ix3 b i j) = (((i.val * 64 + j.val : ℕ) : ℝ) : EReal) := by
  pointwise [k0_pay13]
  show (((IntOp.addi (IntOp.muli (BitVec.ofNat 32 i.val) 64#32) (BitVec.ofNat 32 j.val)).toInt : ℝ) : EReal) = _
  rw [flat_word]; norm_cast
theorem index_entry (b : Fin 32) (i : Fin 64) : k0_pay14 (F := Ideal) (ix3 b 0 i) = (((i.val : ℕ) : ℝ) : EReal) := by
  pointwise [k0_pay14]
  show (((BitVec.ofNat 32 i.val).toInt : ℝ) : EReal) = _
  rw [index_word]; norm_cast

/-! ## One round -/

/-- The table of one batch entry of a block, flattened. -/
def tabOf (f : FVec Ideal S32x64x64 .f32) (b : Fin 32) (p : Fin 4096) : EReal := f (ix3 b (row p) (col p))

theorem round_value (f : FVec Ideal S32x64x64 .f32) (b : Fin 32) : k0_pay27 f (ix3 b 0 0) = tabOf f b (pick (tabOf f b)) := by
  pointwise [k0_pay27]
  rw [c_bot]
  exact max_rows fun i j => f (ix3 b i j)

theorem round_position (f : FVec Ideal S32x64x64 .f32) (b : Fin 32) :
    k0_pay29 k0_pay13 f (ix3 b 0 0) = (((pick (tabOf f b)).val : ℝ) : EReal) := by
  pointwise [k0_pay29, k0_pay28]
  rw [c_top, c_far]
  simp only [flat_entry]
  exact min_rows (fun i j => f (ix3 b i j)) _ (round_value f b)

theorem round_strike (f : FVec Ideal S32x64x64 .f32) (b : Fin 32) : tabOf (k0_pay30 k0_pay13 f) b = strike (tabOf f b) (pick (tabOf f b)) := by
  funext p
  show k0_pay30 k0_pay13 f (ix3 b (row p) (col p)) = _
  pointwise [k0_pay30, k0_pay28]
  rw [c_negOne, flat_entry, round_value, round_position]
  have e : (row p).val * 64 + (col p).val = p.val := congrArg Fin.val (flat_row_col p)
  rw [e]
  unfold strike
  by_cases h : p = pick (tabOf f b)
  · rw [h, Function.update_self]
    have h1 : f (ix3 b (row (pick (tabOf f b))) (col (pick (tabOf f b)))) = tabOf f b (pick (tabOf f b)) := rfl
    rw [decide_eq_true h1, decide_eq_true rfl]
    rfl
  · rw [Function.update_of_ne h]
    have h2 : ¬ ((((p.val : ℕ) : ℝ) : EReal) = (((pick (tabOf f b)).val : ℝ) : EReal)) := fun e => h (Fin.ext (by exact_mod_cast e))
    rw [decide_eq_false h2]
    cases decide (f (ix3 b (row p) (col p)) = tabOf f b (pick (tabOf f b))) <;> rfl

/-! ## Reading a picked point -/

theorem floor_row (p : Fin 4096) : Ideal.liftRound Int.floor ((((p.val : ℕ) : ℝ) : EReal) * ((1/64 : ℝ) : EReal)) = (((row p).val : ℝ) : EReal) := by
  rw [← EReal.coe_mul, Ideal.liftRound_coe]
  have : Int.floor (((p.val : ℕ) : ℝ) * (1/64 : ℝ)) = ((row p).val : ℤ) := by
    rw [Int.floor_eq_iff]
    have h := flat_row_col p
    have e : (row p).val * 64 + (col p).val = p.val := congrArg Fin.val h
    have hc : (col p).val < 64 := (col p).isLt
    have e' : ((row p).val : ℝ) * 64 + ((col p).val : ℝ) = (p.val : ℝ) := by exact_mod_cast e
    have hc' : ((col p).val : ℝ) < 64 := by exact_mod_cast hc
    have h0 : (0 : ℝ) ≤ ((col p).val : ℝ) := Nat.cast_nonneg _
    push_cast
    constructor <;> linarith
  rw [this]; norm_cast

theorem sub_col (p : Fin 4096) : (((p.val : ℕ) : ℝ) : EReal) - (((row p).val : ℝ) : EReal) * ((64 : ℝ) : EReal) = (((col p).val : ℝ) : EReal) := by
  rw [← EReal.coe_mul, ← EReal.coe_sub]
  have e : (row p).val * 64 + (col p).val = p.val := congrArg Fin.val (flat_row_col p)
  have e' : ((row p).val : ℝ) * 64 + ((col p).val : ℝ) = (p.val : ℝ) := by exact_mod_cast e
  congr 1
  linarith

/-- A one-hot sum reads one entry. -/
theorem one_hot (b : Fin 32) (f : Fin 64 → EReal) (r : Fin 64) :
    (∑ x, if k0_pay14 (F := Ideal) (ix3 b 0 x) = ((r.val : ℝ) : EReal) then f x else 0) = f r := by
  rw [Finset.sum_eq_single r]
  · rw [index_entry, if_pos rfl]
  · intro x _ hx
    rw [index_entry, if_neg]
    intro e
    exact hx (Fin.ext (by exact_mod_cast e))
  · intro h; exact absurd (Finset.mem_univ _) h

/-! ## The three results of the rounds, from the first table -/

theorem res_scores (f : FVec Ideal S32x64x64 .f32) (b : Fin 32) (k : Fin 3) :
    k0_pay43 (iota .tc S32x3 32 [1] iota_S32x3_d1_w32) (k0_pay34 (iota .tc S32x3 32 [1] iota_S32x3_d1_w32) (k0_pay24 (iota .tc S32x3 32 [1] iota_S32x3_d1_w32) k0_pay15 (k0_pay27 f)) (k0_pay27 (k0_pay30 k0_pay13 f))) (k0_pay27 (k0_pay30 k0_pay13 (k0_pay30 k0_pay13 f))) (ix2 b k)
      = tab (tabOf f b) k.val (sel (tabOf f b) k.val) := by
  pointwise [k0_pay43, k0_pay34, k0_pay24, k0_pay15]
  rw [round_value, round_value, round_value, round_strike, round_strike]
  fin_cases k <;> rfl

theorem res_rows (f : FVec Ideal S32x64x64 .f32) (x4 : FVec Ideal S32x3x64 .f32) (b : Fin 32) (k c : Fin 3) :
    k0_pay44 (iota .tc S32x3x3 32 [1] iota_S32x3x3_d1_w32) (k0_pay35 (iota .tc S32x3x3 32 [1] iota_S32x3x3_d1_w32) (k0_pay25 k0_pay14 (iota .tc S32x3x3 32 [1] iota_S32x3x3_d1_w32) k0_pay16 (k0_pay29 k0_pay13 f) k0_pay22 x4) (k0_pay32 k0_pay13 k0_pay14 (k0_pay30 k0_pay13 f) x4)) (k0_pay41 x4) (FloatOps.ofBits .f32 0#32) (k0_pay42 k0_pay13 k0_pay14 (k0_pay30 k0_pay13 (k0_pay30 k0_pay13 f))) (ix3 b k c)
      = x4 (ix3 b c (row (sel (tabOf f b) k.val))) := by
  pointwise [k0_pay44, k0_pay35, k0_pay25, k0_pay32, k0_pay41, k0_pay42, k0_pay16, k0_pay22, k0_pay23, k0_pay31, k0_pay39]
  have e38 : k0_pay38 k0_pay13 (k0_pay30 k0_pay13 (k0_pay30 k0_pay13 f)) = k0_pay29 k0_pay13 (k0_pay30 k0_pay13 (k0_pay30 k0_pay13 f)) := rfl
  rw [e38, c_64th, round_position, round_position, round_position, round_strike, round_strike]
  simp only [floor_row, one_hot]
  fin_cases k <;> rfl

theorem res_cols (f : FVec Ideal S32x64x64 .f32) (x5 : FVec Ideal S32x3x64 .f32) (b : Fin 32) (k c : Fin 3) :
    k0_pay45 k0_pay14 (iota .tc S32x3x3 32 [1] iota_S32x3x3_d1_w32) (k0_pay36 (iota .tc S32x3x3 32 [1] iota_S32x3x3_d1_w32) (k0_pay26 k0_pay14 (iota .tc S32x3x3 32 [1] iota_S32x3x3_d1_w32) k0_pay17 (k0_pay29 k0_pay13 f) k0_pay22 x5) (k0_pay33 k0_pay13 k0_pay14 (k0_pay30 k0_pay13 f) x5)) (k0_pay40 k0_pay13 (k0_pay30 k0_pay13 (k0_pay30 k0_pay13 f))) x5 (ix3 b k c)
      = x5 (ix3 b c (col (sel (tabOf f b) k.val))) := by
  pointwise [k0_pay45, k0_pay36, k0_pay26, k0_pay33, k0_pay40, k0_pay17, k0_pay22, k0_pay23, k0_pay31, k0_pay39]
  have e38 : k0_pay38 k0_pay13 (k0_pay30 k0_pay13 (k0_pay30 k0_pay13 f)) = k0_pay29 k0_pay13 (k0_pay30 k0_pay13 (k0_pay30 k0_pay13 f)) := rfl
  rw [e38, c_64th, c_64, round_position, round_position, round_position, round_strike, round_strike]
  simp only [floor_row, sub_col, one_hot]
  fin_cases k <;> rfl

end Cert.KernelIdeal.Blk
end
-- ==== Proof.BlockValue.lean ====
/-
  One batch entry of a block of the kernel's results is the optimal transport of that entry's scores and masks, and its three
  picks.
-/
module

public import proofs.«01_k».proof.Proof.Round

@[expose] public section

noncomputable section
open Idealize.ShloMosaic Idealize.ShloMosaic.TcCoe Idealize.SL.Sem
namespace Cert.KernelIdeal.Blk
open Cert.KernelIdeal Cert.KernelIdeal.Gen Cert.Ot

/-- What a block's entry `b` holds: the masks as zeros and ones, the dustbin's score, the scores. -/
structure Holds (x0 : FVec Ideal S32x65x65 .f32) (x1 x2 : FVec Ideal S32x64 .f32) (x3 : Vec Ideal S1x1 .f32) (b : Fin 32)
    (sc : Fin 64 → Fin 64 → EReal) (al : EReal) (tm sm : Fin 64 → BitVec 1) : Prop where
  scores : ∀ i j : Fin 64, x0 (ix3 b ⟨i.val, by omega⟩ ⟨j.val, by omega⟩) = sc i j
  rows : ∀ i : Fin 64, x1 (ix2 b i) = ind (tm i)
  cols : ∀ j : Fin 64, x2 (ix2 b j) = ind (sm j)
  bin : x3 (Shape.Idx.first numel1_S1x1.symm.le) = al

/-- Zeros and ones are told apart by one half. -/
theorem half_lt_ind (w : BitVec 1) : ((1/2 : ℝ) : EReal) < ind w ↔ w = 1#1 := by
  unfold ind
  split_ifs with h
  · exact ⟨fun _ => h, fun _ => by rw [← EReal.coe_one]; exact EReal.coe_lt_coe_iff.mpr (by norm_num)⟩
  · exact ⟨fun e => by rw [← EReal.coe_zero] at e; exact absurd (EReal.coe_lt_coe_iff.mp e) (by norm_num), fun e => absurd e h⟩

/-- Whether a position is the dustbin's, as a word. -/
theorem bin_word : ∀ i : Fin 65, IntOp.cmpi CmpIPredicate.eq (BitVec.ofNat 32 i.val) 64#32 = BitVec.ofBool (decide (i.val = 64)) := by
  decide +kernel

/-- A mask's float with the dustbin's entry is one where the mask with its dustbin's entry is set, zero elsewhere. -/
theorem mask_on (f : Fin 64 → EReal) (w : Fin 64 → BitVec 1) (hf : ∀ i, f i = ind (w i)) (z : EReal) (i : Fin 65) :
    Scalar.select (IntOp.cmpi CmpIPredicate.eq (BitVec.ofNat 32 i.val) 64#32) 1
        (if h : i.val < 64 then f ⟨i.val, h⟩ else z) = if On w i then 1 else 0 := by
  rw [bin_word]
  unfold On
  by_cases h : i.val < 64
  · rw [dif_pos h, decide_eq_false (by omega), hf]
    simp only [dif_pos h]
    rfl
  · rw [dif_neg h, decide_eq_true (by omega)]
    simp only [dif_neg h, if_true]
    rfl

theorem half_lt_one : ((1/2 : ℝ) : EReal) < 1 := by rw [← EReal.coe_one]; exact EReal.coe_lt_coe_iff.mpr (by norm_num)
theorem not_half_lt_zero : ¬ ((1/2 : ℝ) : EReal) < 0 := by rw [← EReal.coe_zero]; exact not_lt.mpr (EReal.coe_le_coe_iff.mpr (by norm_num))

variable {x0 : FVec Ideal S32x65x65 .f32} {x1 x2 : FVec Ideal S32x64 .f32} {x3 : Vec Ideal S1x1 .f32} {b : Fin 32}
  {sc : Fin 64 → Fin 64 → EReal} {al : EReal} {tm sm : Fin 64 → BitVec 1}

theorem pad_entry (H : Holds x0 x1 x2 x3 b sc al tm sm) (i j : Fin 65) :
    padB x0 x1 x2 x3 (ix3 b i j) = padd sc al (Ideal.ofBits .f32 3351465984#32) tm sm i j := by
  unfold padB
  rw [H.bin]
  unfold_payloads
  pointwise
  rw [mask_on (fun i => x1 (ix2 b i)) tm H.rows, mask_on (fun j => x2 (ix2 b j)) sm H.cols, bin_word, bin_word, c_half]
  unfold padd
  by_cases h : On tm i ∧ On sm j
  · rw [if_pos h, if_pos h.1, if_pos h.2, mul_one, if_pos half_lt_one]
    by_cases h2 : i.val < 64 ∧ j.val < 64
    · rw [dif_pos h2, decide_eq_false (by omega), decide_eq_false (by omega)]
      exact H.scores ⟨i.val, h2.1⟩ ⟨j.val, h2.2⟩
    · rw [dif_neg h2]
      by_cases hi : i.val = 64
      · rw [decide_eq_true hi]; cases decide (j.val = 64) <;> rfl
      · rw [decide_eq_false hi, decide_eq_true (by omega)]; rfl
  · rw [if_neg h]
    rw [if_neg]
    by_cases hi : On tm i
    · rw [if_pos hi, if_neg fun hj => h ⟨hi, hj⟩, mul_zero]; exact not_half_lt_zero
    · rw [if_neg hi, zero_mul]; exact not_half_lt_zero

/-- The normalising constant. -/
theorem norm_entry (H : Holds x0 x1 x2 x3 b sc al tm sm) : k0_pay6 (F := Ideal) (k0_pay1 x1) (k0_pay2 x2) (ix1 b) = nrm tm sm := by
  rw [show k0_pay1 x1 = x1 from by unfold k0_pay1; exact shapeCast_self _ _, show k0_pay2 x2 = x2 from by unfold k0_pay2; exact shapeCast_self _ _]
  pointwise [k0_pay6, k0_pay5, k0_pay4]
  simp only [H.rows, H.cols]
  rw [zero_sub]; rfl

theorem rows_log (H : Holds x0 x1 x2 x3 b sc al tm sm) : Ideal.log (k0_pay4 (F := Ideal) (k0_pay1 x1) (ix1 b)) = Ideal.log (cnt tm) := by
  rw [show k0_pay1 x1 = x1 from by unfold k0_pay1; exact shapeCast_self _ _]
  pointwise [k0_pay4]
  simp only [H.rows]; rfl
theorem cols_log (H : Holds x0 x1 x2 x3 b sc al tm sm) : Ideal.log (k0_pay5 (F := Ideal) (k0_pay2 x2) (ix1 b)) = Ideal.log (cnt sm) := by
  rw [show k0_pay2 x2 = x2 from by unfold k0_pay2; exact shapeCast_self _ _]
  pointwise [k0_pay5]
  simp only [H.cols]; rfl

/-- One round's row potentials. -/
theorem u_entry (H : Holds x0 x1 x2 x3 b sc al tm sm) (v : FVec Ideal S32x65 .f32) (V : Fin 65 → EReal) (hv : ∀ j, v (ix2 b j) = V j) (i : Fin 65) :
    k0_pay9 (k0_pay1 x1) (k0_pay2 x2) (iota .tc S32x65 32 [1] iota_S32x65_d1_w32) (padB x0 x1 x2 x3) v (ix2 b i)
      = marg (nrm tm sm) sm i - lse fun j => padd sc al (Ideal.ofBits .f32 3351465984#32) tm sm i j + V j := by
  pointwise [k0_pay9]
  simp only [pad_entry H, hv]
  rw [norm_entry H, cols_log H, bin_word, c_bot]
  unfold marg
  by_cases h : i.val = 64
  · rw [decide_eq_true h, if_pos h]; rfl
  · rw [decide_eq_false h, if_neg h]; rfl

/-- One round's column potentials. -/
theorem v_entry (H : Holds x0 x1 x2 x3 b sc al tm sm) (v : FVec Ideal S32x65 .f32) (V : Fin 65 → EReal) (hv : ∀ j, v (ix2 b j) = V j) (j : Fin 65) :
    k0_pay10 (k0_pay1 x1) (k0_pay2 x2) (iota .tc S32x65 32 [1] iota_S32x65_d1_w32) (padB x0 x1 x2 x3) v (ix2 b j)
      = marg (nrm tm sm) tm j - lse fun i => padd sc al (Ideal.ofBits .f32 3351465984#32) tm sm i j
          + (marg (nrm tm sm) sm i - lse fun j => padd sc al (Ideal.ofBits .f32 3351465984#32) tm sm i j + V j) := by
  pointwise [k0_pay10]
  simp only [pad_entry H, u_entry H v V hv]
  rw [norm_entry H, rows_log H, bin_word, c_bot]
  unfold marg
  by_cases h : j.val = 64
  · rw [decide_eq_true h, if_pos h]; rfl
  · rw [decide_eq_false h, if_neg h]; rfl

theorem iterate_foldl {α : Type} (f : α → α) (n : ℕ) (s : α) : (List.finRange n).foldl (fun a _ => f a) s = f^[n] s := by
  have h : ∀ (l : List (Fin n)) (s : α), l.foldl (fun a _ => f a) s = f^[l.length] s := by
    intro l
    induction l with
    | nil => intro s; rfl
    | cons a l ih => intro s; rw [List.foldl_cons, ih, List.length_cons, Function.iterate_succ_apply]
  rw [h, List.length_finRange]

/-- The potentials after the loop. -/
theorem uv_entry (H : Holds x0 x1 x2 x3 b sc al tm sm) :
    (∀ i, (uvB x0 x1 x2 x3).1 (ix2 b i) = (pots lse (padd sc al (Ideal.ofBits .f32 3351465984#32) tm sm) (marg (nrm tm sm) sm) (marg (nrm tm sm) tm) 100).1 i)
    ∧ ∀ j, (uvB x0 x1 x2 x3).2 (ix2 b j) = (pots lse (padd sc al (Ideal.ofBits .f32 3351465984#32) tm sm) (marg (nrm tm sm) sm) (marg (nrm tm sm) tm) 100).2 j := by
  have e : uvB x0 x1 x2 x3 = (stepB x0 x1 x2 x3)^[100] (k0_pay7, k0_pay8) := by
    unfold uvB
    rw [Scf.fold_eq]
    exact iterate_foldl _ 100 _
  rw [e]
  generalize 100 = n
  induction n with
  | zero => exact ⟨fun i => by show k0_pay7 (ix2 b i) = 0; pointwise [k0_pay7], fun i => by show k0_pay8 (ix2 b i) = 0; pointwise [k0_pay8]⟩
  | succ n ih =>
    rw [Function.iterate_succ_apply']
    unfold pots at ih ⊢
    rw [Function.iterate_succ_apply']
    exact ⟨fun i => u_entry H _ _ ih.2 i, fun j => v_entry H _ _ ih.2 j⟩

/-- A block's log assignments. -/
theorem out_entry (H : Holds x0 x1 x2 x3 b sc al tm sm) (i j : Fin 65) :
    outB x0 x1 x2 x3 (ix3 b i j) = assign lse sc al (Ideal.ofBits .f32 3351465984#32) tm sm i j := by
  unfold outB
  pointwise [k0_pay11]
  rw [pad_entry H, (uv_entry H).1, (uv_entry H).2, norm_entry H]
  rfl

/-- The flat table the picks are made from. -/
def gtab (sc : Fin 64 → Fin 64 → EReal) (al : EReal) (tm sm : Fin 64 → BitVec 1) (p : Fin 4096) : EReal :=
  kept (assign lse sc al (Ideal.ofBits .f32 3351465984#32) tm sm) tm sm (row p) (col p)

theorem tab_entry (H : Holds x0 x1 x2 x3 b sc al tm sm) : tabOf (k0_pay12 (k0_pay1 x1) (k0_pay2 x2) (outB x0 x1 x2 x3)) b = gtab sc al tm sm := by
  rw [show k0_pay1 x1 = x1 from by unfold k0_pay1; exact shapeCast_self _ _, show k0_pay2 x2 = x2 from by unfold k0_pay2; exact shapeCast_self _ _]
  funext p
  show k0_pay12 x1 x2 (outB x0 x1 x2 x3) (ix3 b (row p) (col p)) = _
  pointwise [k0_pay12]
  rw [out_entry H, H.rows, H.cols, c_half]
  unfold gtab kept
  by_cases h : tm (row p) = 1#1 ∧ sm (col p) = 1#1
  · rw [if_pos h, decide_eq_true ((half_lt_ind _).mpr h.1), decide_eq_true ((half_lt_ind _).mpr h.2)]; rfl
  · rw [if_neg h]
    by_cases h1 : tm (row p) = 1#1
    · rw [decide_eq_false fun e => h ⟨h1, (half_lt_ind _).mp e⟩]
      cases decide (((1/2 : ℝ) : EReal) < ind (tm (row p))) <;> rfl
    · rw [decide_eq_false fun e => h1 ((half_lt_ind _).mp e)]
      cases decide (((1/2 : ℝ) : EReal) < ind (sm (col p))) <;> rfl

theorem gtab_nonneg (sc : Fin 64 → Fin 64 → EReal) (al : EReal) (tm sm : Fin 64 → BitVec 1) (p : Fin 4096) : 0 ≤ gtab sc al tm sm p :=
  kept_nonneg _ _ _ _ _

/-- A block's picked scores. -/
theorem scores_entry (H : Holds x0 x1 x2 x3 b sc al tm sm) (k : Fin 3) :
    res7B x0 x1 x2 x3 (ix2 b k) = gtab sc al tm sm (sel (gtab sc al tm sm) k.val) := by
  refine (res_scores (k0_pay12 (k0_pay1 x1) (k0_pay2 x2) (outB x0 x1 x2 x3)) b k).trans ?_
  rw [tab_entry H]
  exact tab_sel (gtab_nonneg sc al tm sm) k.val (by omega)

/-- A block's picked target points. -/
theorem rows_entry (H : Holds x0 x1 x2 x3 b sc al tm sm) (x4 : FVec Ideal S32x3x64 .f32) (k c : Fin 3) :
    res8B x0 x1 x2 x3 x4 (ix3 b k c) = x4 (ix3 b c (row (sel (gtab sc al tm sm) k.val))) := by
  refine (res_rows (k0_pay12 (k0_pay1 x1) (k0_pay2 x2) (outB x0 x1 x2 x3)) x4 b k c).trans ?_
  rw [tab_entry H]

/-- A block's picked source points. -/
theorem cols_entry (H : Holds x0 x1 x2 x3 b sc al tm sm) (x5 : FVec Ideal S32x3x64 .f32) (k c : Fin 3) :
    res9B x0 x1 x2 x3 x5 (ix3 b k c) = x5 (ix3 b c (col (sel (gtab sc al tm sm) k.val))) := by
  refine (res_cols (k0_pay12 (k0_pay1 x1) (k0_pay2 x2) (outB x0 x1 x2 x3)) x5 b k c).trans ?_
  rw [tab_entry H]

end Cert.KernelIdeal.Blk
end
-- ==== Proof.Spec.lean ====
/-
  The problem over plain functions: the masked point features of the selected points, the scores between them, the log
  assignments of each batch entry and its three picks.
-/
module

public import proofs.«01_k».proof.Proof.Top

@[expose] public section

noncomputable section
open Idealize.ShloMosaic
namespace Cert.Ot

/-- The eight arguments as functions of their indices. -/
structure Args where
  sp : Fin 256 → Fin 64 → Fin 3 → EReal
  tp : Fin 256 → Fin 64 → Fin 3 → EReal
  sm : Fin 256 → Fin 64 → BitVec 1
  tm : Fin 256 → Fin 64 → BitVec 1
  wp : Fin 3 → Fin 64 → EReal
  wf : Fin 64 → Fin 256 → EReal
  bf : Fin 256 → EReal
  al : EReal

/-- A point's features: two linear maps and a bias where the mask keeps the point, zero elsewhere. -/
def feat (A : Args) (pts : Fin 64 → Fin 3 → EReal) (w : Fin 64 → BitVec 1) (i : Fin 64) (k : Fin 256) : EReal :=
  if w i = 1#1 then (∑ e, (∑ d, pts i d * A.wp d e) * A.wf e k) + A.bf k else 0

/-- The score of target point `i` against source point `j`. -/
def score (A : Args) (n : Fin 256) (i j : Fin 64) : EReal :=
  Ideal.div (∑ k, feat A (A.tp n) (A.tm n) i k * feat A (A.sp n) (A.sm n) j k) (Ideal.ofBits .f32 1098907648#32)

/-- The log assignments, with the spelling of log-sum-exp left open. -/
def logs (L : (Fin 65 → EReal) → EReal) (A : Args) (n : Fin 256) : Fin 65 → Fin 65 → EReal :=
  assign L (score A n) A.al (Ideal.ofBits .f32 3351465984#32) (A.tm n) (A.sm n)

/-- The flat table a batch entry's picks are made from. -/
def table (L : (Fin 65 → EReal) → EReal) (A : Args) (n : Fin 256) (p : Fin 4096) : EReal :=
  kept (logs L A n) (A.tm n) (A.sm n) (row p) (col p)

/-- The `k`-th pick of batch entry `n`. -/
def chosen (L : (Fin 65 → EReal) → EReal) (A : Args) (n : Fin 256) (k : Fin 3) : Fin 4096 := sel (table L A n) k.val

/-- Every float argument is finite. -/
structure Finite (A : Args) : Prop where
  sp : ∀ n i d, Fi (A.sp n i d)
  tp : ∀ n i d, Fi (A.tp n i d)
  wp : ∀ d e, Fi (A.wp d e)
  wf : ∀ e k, Fi (A.wf e k)
  bf : ∀ k, Fi (A.bf k)
  al : Fi A.al

theorem fi_feat {A : Args} (h : Finite A) {pts : Fin 64 → Fin 3 → EReal} (hp : ∀ i d, Fi (pts i d)) (w : Fin 64 → BitVec 1)
    (i : Fin 64) (k : Fin 256) : Fi (feat A pts w i k) := by
  unfold feat; split_ifs
  · exact (Fi.sum _ _ fun e => (Fi.sum _ _ fun d => (hp i d).mul (h.wp d e)).mul (h.wf e k)).add (h.bf k)
  · exact Fi.zero

theorem c_sixteen : Ideal.ofBits .f32 1098907648#32 = ((16 : ℝ) : EReal) := by
  simp [Ideal.ofBits, Ideal.ieee, -EReal.coe_mul]; norm_num

theorem fi_score {A : Args} (h : Finite A) (n : Fin 256) (i j : Fin 64) : Fi (score A n i j) := by
  unfold score Ideal.div
  rw [c_sixteen, if_neg (by rw [← EReal.coe_zero]; exact fun e => by have := EReal.coe_injective e; norm_num at this), ← EReal.coe_inv]
  exact (Fi.sum _ _ fun k => (fi_feat h (h.tp n) _ _ _).mul (fi_feat h (h.sp n) _ _ _)).mul (Fi.coe _)

/-- With finite arguments the log assignments do not depend on the spelling of log-sum-exp. -/
theorem logs_eq {A : Args} (h : Finite A) (n : Fin 256) : logs hlse A n = logs lse A n :=
  assign_eq (fi_score h n) h.al (by
    refine ⟨-100000, ?_⟩
    simp [Ideal.ofBits, Ideal.ieee, -EReal.coe_mul, -EReal.coe_neg]; norm_num) _ _

theorem table_eq {A : Args} (h : Finite A) (n : Fin 256) : table hlse A n = table lse A n := by
  funext p; unfold table; rw [logs_eq h]

theorem chosen_eq {A : Args} (h : Finite A) (n : Fin 256) (k : Fin 3) : chosen hlse A n k = chosen lse A n k := by
  unfold chosen; rw [table_eq h]

theorem table_nonneg (L : (Fin 65 → EReal) → EReal) (A : Args) (n : Fin 256) (p : Fin 4096) : 0 ≤ table L A n p := kept_nonneg _ _ _ _ _

/-- A product of two masked features, masked at the outside. -/
theorem masked_mul (a b : BitVec 1) (x y : EReal) :
    Scalar.select b (Scalar.select a (x * y) 0) 0 = (if a = 1#1 then x else 0) * (if b = 1#1 then y else 0) := by
  show (if b = 1#1 then (if a = 1#1 then x * y else 0) else 0) = _
  by_cases ha : a = 1#1
  · by_cases hb : b = 1#1
    · rw [if_pos ha, if_pos hb, if_pos hb, if_pos ha]
    · rw [if_neg hb, if_neg hb, mul_zero]
  · rw [if_neg ha, if_neg ha, zero_mul, ite_self]

end Cert.Ot
end
-- ==== Proof.HostValue.lean ====
/-
  What the kernel's host prefix hands to the call: the padded scores, the masks as zeros and ones, the dustbin's score and
  the transposed points.
-/
module

public import proofs.«01_k».proof.Proof.Spec
public import proofs.«01_k».proof.Proof.Gen.KernelIdeal.Value

@[expose] public section

noncomputable section
open Idealize.ShloMosaic Idealize.ShloMosaic.TcCoe Idealize.SL.Sem
namespace Cert.KernelIdeal.Blk
open Cert.KernelIdeal Cert.KernelIdeal.Gen Cert.Ot
variable (m : (ℓ : Loc nD τ sig) → Buf (Elt Ideal) ℓ) (c : Dev nD)

/-- The arguments a device is launched with. -/
def kargs : Args where
  sp n i d := m ((c : Thread nD τ).loc main_arg0) (ix3 n i d)
  tp n i d := m ((c : Thread nD τ).loc main_arg1) (ix3 n i d)
  sm n i := m ((c : Thread nD τ).loc main_arg2) (ix2 n i)
  tm n i := m ((c : Thread nD τ).loc main_arg3) (ix2 n i)
  wp d e := m ((c : Thread nD τ).loc main_arg4) (ix2 d e)
  wf e k := m ((c : Thread nD τ).loc main_arg5) (ix2 e k)
  bf k := m ((c : Thread nD τ).loc main_arg6) (ix1 k)
  al := m ((c : Thread nD τ).loc main_arg7) ix0

/-- The padded score array, off its padding. -/
theorem host_scores (n : Fin 256) (i j : Fin 64) :
    (V m c main_v17 : FVec Ideal S256x65x65 .f32) (ix3 n ⟨i.val, by omega⟩ ⟨j.val, by omega⟩) = score (kargs m c) n i j := by
  simp only [V, hostOps0, hostOps0_1, hostOps0_2, hostOps0_3, hostOps0_4, hostOps0_5, hostOps0_6, List.flatten_cons, List.flatten_nil, List.append_nil, List.cons_append, List.nil_append]
  after_results
  simp only [StableHlo.TRef.ofBuf_toBuf, StableHlo.TRef.ofBuf, StableHlo.TRef.toBuf, cast_eq, id]
  pointwise
  simp only [masked_mul]
  rfl

theorem uitofp_ind (w : BitVec 1) : (FloatOps.uitofp .f32 w : Ideal .f32) = ind w := by
  show ((w.toNat : ℝ) : EReal) = ind w
  unfold ind
  rcases BitVec.eq_zero_or_eq_one w with h | h
  · subst h; rw [if_neg (by decide)]; norm_num
  · subst h; rw [if_pos rfl]; norm_num

/-- The target masks as zeros and ones. -/
theorem host_rows (n : Fin 256) (i : Fin 64) : (V m c main_v18 : FVec Ideal S256x64 .f32) (ix2 n i) = ind ((kargs m c).tm n i) := by
  simp only [V, hostOps0, hostOps0_1, hostOps0_2, hostOps0_3, hostOps0_4, hostOps0_5, hostOps0_6, List.flatten_cons, List.flatten_nil, List.append_nil, List.cons_append, List.nil_append]
  after_results
  pointwise
  exact uitofp_ind _

/-- The source masks as zeros and ones. -/
theorem host_cols (n : Fin 256) (i : Fin 64) : (V m c main_v19 : FVec Ideal S256x64 .f32) (ix2 n i) = ind ((kargs m c).sm n i) := by
  simp only [V, hostOps0, hostOps0_1, hostOps0_2, hostOps0_3, hostOps0_4, hostOps0_5, hostOps0_6, List.flatten_cons, List.flatten_nil, List.append_nil, List.cons_append, List.nil_append]
  after_results
  pointwise
  exact uitofp_ind _

/-- The dustbin's score. -/
theorem host_bin : (V m c main_v20 : FVec Ideal S1x1 .f32) (ix2 0 0) = (kargs m c).al := by
  simp only [V, hostOps0, hostOps0_1, hostOps0_2, hostOps0_3, hostOps0_4, hostOps0_5, hostOps0_6, List.flatten_cons, List.flatten_nil, List.append_nil, List.cons_append, List.nil_append]
  after_results
  pointwise
  rfl

/-- The transposed target points. -/
theorem host_tpts (n : Fin 256) (d : Fin 3) (i : Fin 64) : (V m c main_v21 : FVec Ideal S256x3x64 .f32) (ix3 n d i) = (kargs m c).tp n i d := by
  simp only [V, hostOps0, hostOps0_1, hostOps0_2, hostOps0_3, hostOps0_4, hostOps0_5, hostOps0_6, List.flatten_cons, List.flatten_nil, List.append_nil, List.cons_append, List.nil_append]
  after_results
  pointwise
  rfl

/-- The transposed source points. -/
theorem host_spts (n : Fin 256) (d : Fin 3) (i : Fin 64) : (V m c main_v22 : FVec Ideal S256x3x64 .f32) (ix3 n d i) = (kargs m c).sp n i d := by
  simp only [V, hostOps0, hostOps0_1, hostOps0_2, hostOps0_3, hostOps0_4, hostOps0_5, hostOps0_6, List.flatten_cons, List.flatten_nil, List.append_nil, List.cons_append, List.nil_append]
  after_results
  pointwise
  rfl

end Cert.KernelIdeal.Blk
end
-- ==== Proof.Arrays.lean ====
/-
  The kernel's four result arrays, index by index: block `t` holds batch entries `32 t` to `32 t + 31`.
-/
module

public import proofs.«01_k».proof.Proof.BlockValue
public import proofs.«01_k».proof.Proof.HostValue
public import Idealize.ShloMosaic.Lib.Pipeline.ValueKit

@[expose] public section

set_option maxRecDepth 16384
noncomputable section
open Idealize.ShloMosaic Idealize.ShloMosaic.TcCoe Idealize.SL.Sem
namespace Cert.KernelIdeal.Blk
open Cert.KernelIdeal Cert.KernelIdeal.Gen Cert.KernelIdeal.Value Cert.Ot
variable (m : (ℓ : Loc nD τ sig) → Buf (Elt Ideal) ℓ) (c : Dev nD)

theorem idx0 : ∀ t : Fin cfg0.N, win0_0.index t = ![t.val, 0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)
theorem idx6 : ∀ t : Fin cfg0.N, win0_6.index t = ![t.val, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0, 0] := (by decide +kernel : ∀ t : Fin grid0.N, _)
theorem idx9 : ∀ t : Fin cfg0.N, win0_9.index t = ![t.val, 0, 0] := (by decide +kernel : ∀ t : Fin grid0.N, _)

/-- The batch entry a block's entry is. -/
def glob (t : Fin cfg0.N) (b : Fin 32) : Fin 256 := ⟨t.val * 32 + b.val, by have := t.isLt; have h : cfg0.N = 8 := N_0; omega⟩

/-- What a point's input blocks hold. -/
theorem holds (t : Fin cfg0.N) (b : Fin 32) :
    Holds (iblk m c 0 t) (iblk m c 1 t) (iblk m c 2 t) (iblk m c 3 t) b (score (kargs m c) (glob t b)) (kargs m c).al
      ((kargs m c).tm (glob t b)) ((kargs m c).sm (glob t b)) where
  scores i j := by
    refine Eq.trans ?_ (host_scores m c (glob t b) i j)
    blk_simp [iblk]
    congr 1
    blk_ext [idx0 t, glob]
  rows i := by
    refine Eq.trans ?_ (host_rows m c (glob t b) i)
    blk_simp [iblk]
    congr 1
    blk_ext [idx1 t, glob]
  cols i := by
    refine Eq.trans ?_ (host_cols m c (glob t b) i)
    blk_simp [iblk]
    congr 1
    blk_ext [idx2 t, glob]
  bin := by
    refine Eq.trans ?_ (host_bin m c)
    blk_simp [iblk]
    congr 1
    blk_ext [idx3 t]

/-- The array of log assignments. -/
def logsArr : FVec Ideal S256x65x65 .f32 := fun x => logs lse (kargs m c) (x 0) (x 1) (x 2)
/-- The array of picked scores. -/
def scoresArr : FVec Ideal S256x3 .f32 := fun x => table lse (kargs m c) (x 0) (chosen lse (kargs m c) (x 0) (x 1))
/-- The array of picked target points. -/
def tptsArr : FVec Ideal S256x3x3 .f32 := fun x => (kargs m c).tp (x 0) (row (chosen lse (kargs m c) (x 0) (x 1))) (x 2)
/-- The array of picked source points. -/
def sptsArr : FVec Ideal S256x3x3 .f32 := fun x => (kargs m c).sp (x 0) (col (chosen lse (kargs m c) (x 0) (x 1))) (x 2)

/-- A block's target points. -/
theorem blk_tpts (t : Fin cfg0.N) (b : Fin 32) (d : Fin 3) (i : Fin 64) :
    (iblk m c 4 t : FVec Ideal S32x3x64 .f32) (ix3 b d i) = (kargs m c).tp (glob t b) i d := by
  refine Eq.trans ?_ (host_tpts m c (glob t b) d i)
  blk_simp [iblk]
  congr 1
  blk_ext [idx4 t, glob]
/-- A block's source points. -/
theorem blk_spts (t : Fin cfg0.N) (b : Fin 32) (d : Fin 3) (i : Fin 64) :
    (iblk m c 5 t : FVec Ideal S32x3x64 .f32) (ix3 b d i) = (kargs m c).sp (glob t b) i d := by
  refine Eq.trans ?_ (host_spts m c (glob t b) d i)
  blk_simp [iblk]
  congr 1
  blk_ext [idx5 t, glob]

/-- The log assignments a block leaves. -/
theorem blk_logs (t : Fin cfg0.N) (b : Fin 32) (i j : Fin 65) :
    outB (iblk m c 0 t) (iblk m c 1 t) (iblk m c 2 t) (iblk m c 3 t) (ix3 b i j) = logs lse (kargs m c) (glob t b) i j :=
  out_entry (holds m c t b) i j
theorem gtab_table (n : Fin 256) :
    gtab (score (kargs m c) n) (kargs m c).al ((kargs m c).tm n) ((kargs m c).sm n) = table lse (kargs m c) n := rfl
/-- The scores a block picks. -/
theorem blk_picks (t : Fin cfg0.N) (b : Fin 32) (k : Fin 3) :
    res7B (iblk m c 0 t) (iblk m c 1 t) (iblk m c 2 t) (iblk m c 3 t) (ix2 b k)
      = table lse (kargs m c) (glob t b) (chosen lse (kargs m c) (glob t b) k) := by
  rw [scores_entry (holds m c t b) k, gtab_table]; rfl
theorem logsArr_entry (n : Fin 256) (i j : Fin 65) : logs lse (kargs m c) n i j = logsArr m c (ix3 n i j) := rfl
theorem scoresArr_entry (n : Fin 256) (k : Fin 3) :
    table lse (kargs m c) n (chosen lse (kargs m c) n k) = scoresArr m c (ix2 n k) := rfl

/-- The first result array holds the log assignments. -/
theorem arr6 : (dats m 0 c).arrAt 6 cfg0.N = logsArr m c := by
  refine (dats m 0 c).arrAt_eq_of_covers 6 _ (by decide +kernel) fun t hf y => ?_
  blk_simp
  rw [after0_6]
  simp only [outsAt0]
  rw [out6]
  let b : Fin 32 := y 0
  let i : Fin 65 := y 1
  let j : Fin 65 := y 2
  have ey : y = (ix3 b i j : Shape.Idx _) := by funext a; fin_cases a <;> rfl
  have eg : (ix3 (glob t b) i j : Shape.Idx _) = ((View.whole main_v23_0).slice (win0_6.rect t)).emb y := by
    blk_ext [idx6 t, glob]
  exact (congrArg (outB (iblk m c 0 t) (iblk m c 1 t) (iblk m c 2 t) (iblk m c 3 t)) ey).trans ((blk_logs m c t b i j).trans ((logsArr_entry m c _ i j).trans (congrArg (logsArr m c) eg)))

/-- The second result array holds the picked scores. -/
theorem arr7 : (dats m 0 c).arrAt 7 cfg0.N = scoresArr m c := by
  refine (dats m 0 c).arrAt_eq_of_covers 7 _ (by decide +kernel) fun t hf y => ?_
  blk_simp
  rw [after0_7]
  simp only [outsAt0]
  rw [out7]
  let b : Fin 32 := y 0
  let k : Fin 3 := y 1
  have ey : y = (ix2 b k : Shape.Idx _) := by funext a; fin_cases a <;> rfl
  have eg : (ix2 (glob t b) k : Shape.Idx _) = ((View.whole main_v23_1).slice (win0_7.rect t)).emb y := by
    blk_ext [idx7 t, glob]
  exact (congrArg (res7B (iblk m c 0 t) (iblk m c 1 t) (iblk m c 2 t) (iblk m c 3 t)) ey).trans ((blk_picks m c t b k).trans ((scoresArr_entry m c _ k).trans (congrArg (scoresArr m c) eg)))

/-- The third result array holds the picked target points. -/
theorem arr8 : (dats m 0 c).arrAt 8 cfg0.N = tptsArr m c := by
  refine (dats m 0 c).arrAt_eq_of_covers 8 _ (by decide +kernel) fun t hf y => ?_
  blk_simp
  rw [after0_8]
  simp only [outsAt0]
  rw [out8]
  let b : Fin 32 := y 0
  let k : Fin 3 := y 1
  let d : Fin 3 := y 2
  have ey : y = (ix3 b k d : Shape.Idx _) := by funext a; fin_cases a <;> rfl
  have eg : (ix3 (glob t b) k d : Shape.Idx _) = ((View.whole main_v23_2).slice (win0_8.rect t)).emb y := by
    blk_ext [idx8 t, glob]
  exact (congrArg (res8B (iblk m c 0 t) (iblk m c 1 t) (iblk m c 2 t) (iblk m c 3 t) (iblk m c 4 t)) ey).trans (((rows_entry (holds m c t b) (iblk m c 4 t) k d).trans (blk_tpts m c t b d _)).trans (congrArg (tptsArr m c) eg))

/-- The fourth result array holds the picked source points. -/
theorem arr9 : (dats m 0 c).arrAt 9 cfg0.N = sptsArr m c := by
  refine (dats m 0 c).arrAt_eq_of_covers 9 _ (by decide +kernel) fun t hf y => ?_
  blk_simp
  rw [after0_9]
  simp only [outsAt0]
  rw [out9]
  let b : Fin 32 := y 0
  let k : Fin 3 := y 1
  let d : Fin 3 := y 2
  have ey : y = (ix3 b k d : Shape.Idx _) := by funext a; fin_cases a <;> rfl
  have eg : (ix3 (glob t b) k d : Shape.Idx _) = ((View.whole main_v23_3).slice (win0_9.rect t)).emb y := by
    blk_ext [idx9 t, glob]
  exact (congrArg (res9B (iblk m c 0 t) (iblk m c 1 t) (iblk m c 2 t) (iblk m c 3 t) (iblk m c 5 t)) ey).trans (((cols_entry (holds m c t b) (iblk m c 5 t) k d).trans (blk_spts m c t b d _)).trans (congrArg (sptsArr m c) eg))

end Cert.KernelIdeal.Blk
end
-- ==== Proof.RefTrip.lean ====
/-
  One trip of the reference's loop, entry by entry: new row potentials, then new column potentials from them; and the
  potentials after any number of trips.
-/
module

public import proofs.«01_k».proof.Proof.Spec
public import proofs.«01_k».proof.Proof.Gen.ReferenceIdeal.Run
public import Idealize.ShloMosaic.Lib.IndicatorCount

@[expose] public section

noncomputable section
open Idealize.ShloMosaic Idealize.ShloMosaic.TcCoe Idealize.SL.Sem Idealize.ShloMosaic.StableHlo
namespace Cert.ReferenceIdeal.Rd
open Cert.ReferenceIdeal Cert.ReferenceIdeal.Gen Cert.ReferenceIdeal.Value Cert.Ot

/-- An array's entry as an extended real. -/
def at1 (x : FVec Ideal S256 .f32) (n : Fin 256) : EReal := x (ix1 n)
def at2 (x : FVec Ideal S256x65 .f32) (n : Fin 256) (i : Fin 65) : EReal := x (ix2 n i)
def at3 (x : FVec Ideal S256x65x65 .f32) (n : Fin 256) (i j : Fin 65) : EReal := x (ix3 n i j)

theorem c_inf : Ideal.ofBits .f32 2139095040#32 = ⊤ := by simp [Ideal.ofBits, Ideal.ieee]
theorem c_least : Ideal.ofBits .f32 4286578688#32 = ⊥ := by simp [Ideal.ofBits, Ideal.ieee]

variable (V0 : Valuation τ sig (Elt Ideal))
/-- The scores with the column potentials, and with the row potentials. -/
theorem with_cols (n : Fin 256) (i j : Fin 65) : at3 (res_main_while0b_v85 V0) n i j
    = at3 (V0 (Proc.devRef .tc main_v58_0)) n i j + at2 (V0 (Proc.devRef .tc main_v58_5)) n j := by
  unfold at2 at3 res_main_while0b_v85
  pointwise
theorem with_rows (n : Fin 256) (i j : Fin 65) : at3 (res_main_while0b_v103 V0) n i j
    = at3 (V0 (Proc.devRef .tc main_v58_0)) n i j + at2 (res_main_while0b_v100 V0) n i := by
  unfold at2 at3 res_main_while0b_v103
  pointwise
/-- A maximum over columns, and over rows. -/
theorem row_fold (x : FVec Ideal S256x65x65 .f32) (n : Fin 256) (i : Fin 65) :
    broadcastInDim S256x65x1 ![0, 1] bcast_S256x65_S256x65x1_0_1 (Host.reduce FloatOps.maximumf x (constant S_ .f32 0xFF800000#32) reducesTo_S256x65x65_S256x65_d2 h_S_) (ix3 n i 0)
      = top fun j => at3 x n i j := by
  have e : ∀ y : FVec Ideal S256x65 .f32, broadcastInDim S256x65x1 ![0, 1] bcast_S256x65_S256x65x1_0_1 y (ix3 n i 0) = y (ix2 n i) := fun y => by pointwise
  rw [e]
  refine (Host.reduce_eq_fold (f := (FloatOps.maximumf : Ideal .f32 → Ideal .f32 → Ideal .f32)) _ _ _ _ _).trans ?_
  refine (Shape.ReducesTo.fold_fiber_r3_a2 _ _ _ _ _).trans ?_
  show Finset.univ.fold max (Ideal.ofBits .f32 4286578688#32) (fun j => at3 x n i j) = _
  rw [c_least]
  rfl
theorem col_fold (x : FVec Ideal S256x65x65 .f32) (n : Fin 256) (j : Fin 65) :
    broadcastInDim S256x1x65 ![0, 2] bcast_S256x65_S256x1x65_0_2 (Host.reduce FloatOps.maximumf x (constant S_ .f32 0xFF800000#32) reducesTo_S256x65x65_S256x65_d1 h_S_) (ix3 n 0 j)
      = top fun i => at3 x n i j := by
  have e : ∀ y : FVec Ideal S256x65 .f32, broadcastInDim S256x1x65 ![0, 2] bcast_S256x65_S256x1x65_0_2 y (ix3 n 0 j) = y (ix2 n j) := fun y => by pointwise
  rw [e]
  refine (Host.reduce_eq_fold (f := (FloatOps.maximumf : Ideal .f32 → Ideal .f32 → Ideal .f32)) _ _ _ _ _).trans ?_
  refine (Shape.ReducesTo.fold_fiber_r3_a1 _ _ _ _ _).trans ?_
  show Finset.univ.fold max (Ideal.ofBits .f32 4286578688#32) (fun i => at3 x n i j) = _
  rw [c_least]
  rfl
/-- The largest value of a row, and of a column. -/
theorem row_top (n : Fin 256) (i : Fin 65) : (res_main_while0b_v87 V0 : FVec Ideal S256x65x1 .f32) (ix3 n i 0)
    = top fun j => at3 (res_main_while0b_v85 V0) n i j := by
  unfold at3 res_main_while0b_v87
  generalize res_main_while0b_v85 V0 = x
  exact row_fold x n i
theorem col_top (n : Fin 256) (j : Fin 65) : (res_main_while0b_v105 V0 : FVec Ideal S256x1x65 .f32) (ix3 n 0 j)
    = top fun i => at3 (res_main_while0b_v103 V0) n i j := by
  unfold at3 res_main_while0b_v105
  generalize res_main_while0b_v103 V0 = x
  exact col_fold x n j
/-- What is subtracted: the largest value, zero where it is infinite. -/
theorem row_cut (n : Fin 256) (i : Fin 65) : (res_main_while0b_v91 V0 : FVec Ideal S256x65x1 .f32) (ix3 n i 0)
    = cut ((res_main_while0b_v87 V0 : FVec Ideal S256x65x1 .f32) (ix3 n i 0)) := by
  unfold res_main_while0b_v91
  generalize res_main_while0b_v87 V0 = x
  simp only [id]
  pointwise
  rw [c_inf]
  rfl
theorem col_cut (n : Fin 256) (i : Fin 65) : (res_main_while0b_v109 V0 : FVec Ideal S256x1x65 .f32) (ix3 n 0 i)
    = cut ((res_main_while0b_v105 V0 : FVec Ideal S256x1x65 .f32) (ix3 n 0 i)) := by
  unfold res_main_while0b_v109
  generalize res_main_while0b_v105 V0 = x
  simp only [id]
  pointwise
  rw [c_inf]
  rfl

/-- A trip's row potentials. -/
theorem trip_rows (n : Fin 256) (i : Fin 65) : at2 (res_main_while0b_v100 V0) n i
    = at2 (V0 (Proc.devRef .tc main_v58_1)) n i
      - hlse fun j => at3 (V0 (Proc.devRef .tc main_v58_0)) n i j + at2 (V0 (Proc.devRef .tc main_v58_5)) n j := by
  have h1 := row_cut V0 n i
  rw [row_top V0 n i] at h1
  have h2 := with_cols V0 n i
  have e : (fun j => at3 (V0 (Proc.devRef .tc main_v58_0)) n i j + at2 (V0 (Proc.devRef .tc main_v58_5)) n j) = fun j => at3 (res_main_while0b_v85 V0) n i j :=
    funext fun j => (h2 j).symm
  rw [e]
  unfold res_main_while0b_v100 at2
  generalize res_main_while0b_v91 V0 = y at *
  generalize res_main_while0b_v85 V0 = x at *
  generalize V0 (Proc.devRef .tc main_v58_1) = z at *
  pointwise
  rw [h1]
  rfl
/-- A trip's column potentials. -/
theorem trip_cols (n : Fin 256) (i : Fin 65) : at2 (step_main_v58_5 V0) n i
    = at2 (V0 (Proc.devRef .tc main_v58_2)) n i
      - hlse fun j => at3 (V0 (Proc.devRef .tc main_v58_0)) n j i + at2 (res_main_while0b_v100 V0) n j := by
  have h1 := col_cut V0 n i
  rw [col_top V0 n i] at h1
  have h2 := fun j => with_rows V0 n j i
  have e : (fun j => at3 (V0 (Proc.devRef .tc main_v58_0)) n j i + at2 (res_main_while0b_v100 V0) n j) = fun j => at3 (res_main_while0b_v103 V0) n j i :=
    funext fun j => (h2 j).symm
  rw [e]
  unfold step_main_v58_5 at2
  simp only [id]
  generalize res_main_while0b_v109 V0 = y at *
  generalize res_main_while0b_v103 V0 = x at *
  generalize V0 (Proc.devRef .tc main_v58_2) = z at *
  pointwise
  rw [h1]
  rfl

/-- Trips from contents holding the padded scores, the marginals and the potentials after `a` rounds. -/
theorem trips (n : Fin 256) (p : Fin 65 → Fin 65 → EReal) (mu nu : Fin 65 → EReal)
    (h0 : ∀ i j, at3 (V0 (Proc.devRef .tc main_v58_0)) n i j = p i j)
    (h1 : ∀ i, at2 (V0 (Proc.devRef .tc main_v58_1)) n i = mu i)
    (h2 : ∀ i, at2 (V0 (Proc.devRef .tc main_v58_2)) n i = nu i)
    (h4 : ∀ i, at2 (V0 (Proc.devRef .tc main_v58_4)) n i = 0)
    (h5 : ∀ i, at2 (V0 (Proc.devRef .tc main_v58_5)) n i = 0) (k : ℕ) :
    (STEP^[k] V0) (Proc.devRef .tc main_v58_0) = V0 (Proc.devRef .tc main_v58_0) ∧
    (STEP^[k] V0) (Proc.devRef .tc main_v58_1) = V0 (Proc.devRef .tc main_v58_1) ∧
    (STEP^[k] V0) (Proc.devRef .tc main_v58_2) = V0 (Proc.devRef .tc main_v58_2) ∧
    (∀ i, at2 ((STEP^[k] V0) (Proc.devRef .tc main_v58_4)) n i = (pots hlse p mu nu k).1 i) ∧
    (∀ i, at2 ((STEP^[k] V0) (Proc.devRef .tc main_v58_5)) n i = (pots hlse p mu nu k).2 i) := by
  induction k with
  | zero => exact ⟨rfl, rfl, rfl, h4, h5⟩
  | succ k ih =>
    obtain ⟨e0, e1, e2, e4, e5⟩ := ih
    have ep : pots hlse p mu nu (k + 1) = rnd hlse p mu nu (pots hlse p mu nu k) := Function.iterate_succ_apply' _ _ _
    rw [Function.iterate_succ_apply', ep]
    generalize STEP^[k] V0 = V at *
    have er : ∀ i, at2 (res_main_while0b_v100 V) n i = (rnd hlse p mu nu (pots hlse p mu nu k)).1 i := fun i => by
      rw [trip_rows, e1, h1]
      show _ = mu i - hlse fun j => p i j + (pots hlse p mu nu k).2 j
      simp only [e0, h0, e5]
    refine ⟨(STEP_main_v58_0 V).trans e0, (STEP_main_v58_1 V).trans e1, (STEP_main_v58_2 V).trans e2, fun i => ?_, fun i => ?_⟩
    · rw [STEP_main_v58_4]
      exact er i
    · rw [STEP_main_v58_5, trip_cols, e2, h2]
      show _ = nu i - hlse fun j => p j i + (rnd hlse p mu nu (pots hlse p mu nu k)).1 j
      simp only [e0, h0, er]

end Cert.ReferenceIdeal.Rd
end
-- ==== Proof.RefPre.lean ====
/-
  What the reference has computed before its loop: the padded and masked scores, the marginals and the normalising constant.
-/
module

public import proofs.«01_k».proof.Proof.RefTrip
public import Idealize.ShloMosaic.Lib.IndicatorCount

@[expose] public section

noncomputable section
open Idealize.ShloMosaic Idealize.ShloMosaic.TcCoe Idealize.SL.Sem Idealize.ShloMosaic.StableHlo
namespace Cert.ReferenceIdeal.Rd
open Cert.ReferenceIdeal Cert.ReferenceIdeal.Gen Cert.ReferenceIdeal.Value Cert.Ot
variable (m : (ℓ : Loc nD τ sig) → Buf (Elt Ideal) ℓ) (c : Dev nD)

/-- The arguments a device is launched with. -/
def rargs : Args where
  sp n i d := m ((c : Thread nD τ).loc main_arg0) (ix3 n i d)
  tp n i d := m ((c : Thread nD τ).loc main_arg1) (ix3 n i d)
  sm n i := m ((c : Thread nD τ).loc main_arg2) (ix2 n i)
  tm n i := m ((c : Thread nD τ).loc main_arg3) (ix2 n i)
  wp d e := m ((c : Thread nD τ).loc main_arg4) (ix2 d e)
  wf e k := m ((c : Thread nD τ).loc main_arg5) (ix2 e k)
  bf k := m ((c : Thread nD τ).loc main_arg6) (ix1 k)
  al := m ((c : Thread nD τ).loc main_arg7) ix0

/-- Counting a mask's set bits in words is counting them. -/
theorem count_word (w : Fin 64 → BitVec 1) :
    max (FloatOps.sitofp .f32 (Finset.univ.fold IntOp.addi (0#32) fun x => (w x).setWidth 32) : Ideal .f32) 1 = cnt w := by
  rw [IndicatorCount.fold_addi_setWidth_eq_card]
  unfold cnt
  congr 1
  show (((BitVec.ofNat 32 _).toInt : ℝ) : EReal) = _
  have hc : (Finset.univ.filter fun k => w k = 1#1).card ≤ 64 := (Finset.card_le_univ _).trans (by simp)
  have h1 : (BitVec.ofNat 32 (Finset.univ.filter fun k => w k = 1#1).card).toInt = ((Finset.univ.filter fun k => w k = 1#1).card : ℤ) := by
    rw [BitVec.toInt_eq_toNat_of_lt (by rw [BitVec.toNat_ofNat]; omega), BitVec.toNat_ofNat, Nat.mod_eq_of_lt (by omega)]
  rw [h1]
  unfold ind
  rw [Finset.sum_boole]
  norm_cast

theorem select_big (a b : BitVec 1) (x y : EReal) : Scalar.select (IntOp.andi a b) x y = if a = 1#1 ∧ b = 1#1 then x else y := by
  show (if a &&& b = 1#1 then x else y) = _
  congr 1
  revert a b; decide

theorem on_iff (w : Fin 64 → BitVec 1) (i : Fin 65) : (if h : i.val < 64 then w ⟨i.val, h⟩ else 1#1) = 1#1 ↔ On w i := by
  unfold On
  by_cases h : i.val < 64
  · rw [dif_pos h, dif_pos h]
  · rw [dif_neg h, dif_neg h]; simp

/-- A marginal as a concatenation spells it. -/
theorem marg_of (n : EReal) (w : Fin 64 → BitVec 1) (i : Fin 65) :
    (if h : i.val < 64 then n else Ideal.log (cnt w) + n) = marg n w i := by
  unfold marg
  by_cases h : i.val < 64
  · rw [dif_pos h, if_neg (by omega)]
  · rw [dif_neg h, if_pos (by omega)]

/-- The normalising constant. -/
theorem pre_norm (n : Fin 256) : at1 (entryContents preI m c (Proc.devRef .tc main_v43)) n = nrm ((rargs m c).tm n) ((rargs m c).sm n) := by
  unfold at1
  simp only [entryContents, preI, afterL_cons, afterL_nil, hostOps0, hostOps0_1, hostOps0_2, hostOps0_3, hostOps0_4, hostOps0_5, hostOps0_6]
  after_results
  pointwise
  simp only [count_word]
  rfl

/-- The row marginals. -/
theorem pre_mu (n : Fin 256) (i : Fin 65) : at2 (entryContents preI m c (Proc.devRef .tc main_v58_1)) n i
    = marg (nrm ((rargs m c).tm n) ((rargs m c).sm n)) ((rargs m c).sm n) i := by
  unfold at2
  simp only [entryContents, preI, afterL_cons, afterL_nil, hostOps0, hostOps0_1, hostOps0_2, hostOps0_3, hostOps0_4, hostOps0_5, hostOps0_6]
  after_results
  simp only [StableHlo.TRef.ofBuf_toBuf, StableHlo.TRef.ofBuf, StableHlo.TRef.toBuf, cast_eq, id]
  pointwise
  simp only [count_word]
  exact marg_of _ _ _

/-- The column marginals. -/
theorem pre_nu (n : Fin 256) (i : Fin 65) : at2 (entryContents preI m c (Proc.devRef .tc main_v58_2)) n i
    = marg (nrm ((rargs m c).tm n) ((rargs m c).sm n)) ((rargs m c).tm n) i := by
  unfold at2
  simp only [entryContents, preI, afterL_cons, afterL_nil, hostOps0, hostOps0_1, hostOps0_2, hostOps0_3, hostOps0_4, hostOps0_5, hostOps0_6]
  after_results
  simp only [StableHlo.TRef.ofBuf_toBuf, StableHlo.TRef.ofBuf, StableHlo.TRef.toBuf, cast_eq, id]
  pointwise
  simp only [count_word]
  exact marg_of _ _ _

/-- The row potentials start from zero. -/
theorem pre_u (n : Fin 256) (i : Fin 65) : at2 (entryContents preI m c (Proc.devRef .tc main_v58_4)) n i = 0 := by
  unfold at2
  simp only [entryContents, preI, afterL_cons, afterL_nil, hostOps0, hostOps0_1, hostOps0_2, hostOps0_3, hostOps0_4, hostOps0_5, hostOps0_6]
  after_results
  simp only [StableHlo.TRef.ofBuf_toBuf, StableHlo.TRef.ofBuf, StableHlo.TRef.toBuf, cast_eq, id]
  pointwise

/-- The column potentials start from zero. -/
theorem pre_v (n : Fin 256) (i : Fin 65) : at2 (entryContents preI m c (Proc.devRef .tc main_v58_5)) n i = 0 := by
  unfold at2
  simp only [entryContents, preI, afterL_cons, afterL_nil, hostOps0, hostOps0_1, hostOps0_2, hostOps0_3, hostOps0_4, hostOps0_5, hostOps0_6]
  after_results
  simp only [StableHlo.TRef.ofBuf_toBuf, StableHlo.TRef.ofBuf, StableHlo.TRef.toBuf, cast_eq, id]
  pointwise

/-- The padded and masked scores. -/
theorem pre_pad (n : Fin 256) (i j : Fin 65) : at3 (entryContents preI m c (Proc.devRef .tc main_v30)) n i j
    = padd (score (rargs m c) n) (rargs m c).al (Ideal.ofBits .f32 3351465984#32) ((rargs m c).tm n) ((rargs m c).sm n) i j := by
  unfold at3
  simp only [entryContents, preI, afterL_cons, afterL_nil, hostOps0, hostOps0_1, hostOps0_2, hostOps0_3, hostOps0_4, hostOps0_5, hostOps0_6]
  after_results
  simp only [StableHlo.TRef.ofBuf_toBuf, StableHlo.TRef.ofBuf, StableHlo.TRef.toBuf, cast_eq, id]
  pointwise
  rw [select_big]
  simp only [masked_mul]
  unfold padd
  refine if_congr (and_congr (on_iff ((rargs m c).tm n) i) (on_iff ((rargs m c).sm n) j)) ?_ rfl
  by_cases hi : i.val < 64
  · by_cases hj : j.val < 64
    · rw [dif_pos hi, dif_pos hj, dif_pos ⟨hi, hj⟩]; rfl
    · rw [dif_pos hi, dif_neg hj, dif_neg fun h => hj h.2]; rfl
  · rw [dif_neg hi, dif_neg fun h => hi h.1]; rfl

/-- The loop's copy of the padded scores. -/
theorem pre_copy : entryContents preI m c (Proc.devRef .tc main_v58_0) = entryContents preI m c (Proc.devRef .tc main_v30) := by
  simp only [entryContents, preI, afterL_cons, afterL_nil, hostOps0, hostOps0_1, hostOps0_2, hostOps0_3, hostOps0_4, hostOps0_5, hostOps0_6]
  after_results
  try simp only [StableHlo.TRef.ofBuf_toBuf, StableHlo.TRef.ofBuf, StableHlo.TRef.toBuf, cast_eq, id]

end Cert.ReferenceIdeal.Rd
end
-- ==== Proof.RefPost.lean ====
/-
  What the reference computes after its loop: the log assignments, the table of kept assignments, its three largest
  entries and the points they belong to.
-/
module

public import proofs.«01_k».proof.Proof.RefPre
public import Idealize.ShloMosaic.Lib.IndicatorCount

@[expose] public section

noncomputable section
open Idealize.ShloMosaic Idealize.ShloMosaic.TcCoe Idealize.SL.Sem Idealize.ShloMosaic.StableHlo
namespace Cert.ReferenceIdeal.Rd
open Cert.ReferenceIdeal Cert.ReferenceIdeal.Gen Cert.ReferenceIdeal.Value Cert.Ot

/-- A word array's entry. -/
def atW (x : IVec S256x3 32) (n : Fin 256) (k : Fin 3) : BitVec 32 := x (ix2 n k)

/-! ## The three largest -/

theorem gt_bit (a b : EReal) : (FloatOps.cmpfTotal (F := Ideal) (φ := .f32) .gt a b == 1#1) = decide (b < a) := by
  show (BitVec.ofBool (decide (a > b)) == 1#1) = decide (b < a)
  by_cases h : b < a
  · rw [show decide (a > b) = true from decide_eq_true h]; rfl
  · rw [show decide (a > b) = false from decide_eq_false h]; rfl

/-- Moving an index of the table along its last axis. -/
theorem along_ix2 (n : Fin 256) (q p : Fin 4096) (h : 1 < S256x4096.rank) :
    Shape.Idx.along (s := S256x4096) (ix2 n q) ⟨1, h⟩ p = ix2 n p := by
  funext a
  match a with
  | ⟨0, _⟩ => rfl
  | ⟨1, _⟩ => rfl

theorem along_at (n : Fin 256) (q p : Fin 4096) (h : 1 < S256x4096.rank) :
    ((Shape.Idx.along (s := S256x4096) (ix2 n q) ⟨1, h⟩ p) 1).val = p.val := by rw [along_ix2]; rfl

/-- The order in which the sort puts a row's positions. -/
def order (x : FVec Ideal S256x4096 .f32) (n : Fin 256) : Fin 4096 → Fin 4096 :=
  sortedFrom (fun a b => FloatOps.cmpfTotal .gt (x (ix2 n a)) (x (ix2 n b)) == 1#1)

theorem order_at (x : FVec Ideal S256x4096 .f32) (n : Fin 256) (p : Fin 4096) (h : 1 < S256x4096.rank) :
    sortedFrom (n := 4096) (fun a b => FloatOps.cmpfTotal .gt (x (Shape.Idx.along (s := S256x4096) (ix2 n p) ⟨1, h⟩ a)) (x (Shape.Idx.along (s := S256x4096) (ix2 n p) ⟨1, h⟩ b)) == 1#1)
      = order x n := by
  unfold order
  congr 1
  funext a b
  rw [along_ix2, along_ix2]

/-- The sorted scores: each is the score at the position the order names. -/
theorem sorted_scores (x : FVec Ideal S256x4096 .f32) (n : Fin 256) (p : Fin 4096) :
    (Host.sort2 S256x4096 1 (fun l r => FloatOps.cmpfTotal .gt l.1 r.1) x fun i => BitVec.ofNat 32 (i 1).val).1 (ix2 n p)
      = x (ix2 n (order x n p)) := by
  have h : 1 < S256x4096.rank := by decide
  refine Eq.trans ?_ ((congrArg (fun o : Fin 4096 → Fin 4096 => x (Shape.Idx.along (s := S256x4096) (ix2 n p) ⟨1, h⟩ (o p))) (order_at x n p h)).trans
    (congrArg x (along_ix2 n p _ h)))
  unfold Host.sort2
  rw [dif_pos h]
  rfl

/-- The sorted positions. -/
theorem sorted_positions (x : FVec Ideal S256x4096 .f32) (n : Fin 256) (p : Fin 4096) :
    (Host.sort2 S256x4096 1 (fun l r => FloatOps.cmpfTotal .gt l.1 r.1) x fun i => BitVec.ofNat 32 (i 1).val).2 (ix2 n p)
      = BitVec.ofNat 32 (order x n p).val := by
  have h : 1 < S256x4096.rank := by decide
  refine Eq.trans ?_ ((congrArg (fun o : Fin 4096 → Fin 4096 => BitVec.ofNat 32 ((Shape.Idx.along (s := S256x4096) (ix2 n p) ⟨1, h⟩ (o p)) 1).val) (order_at x n p h)).trans
    (congrArg (BitVec.ofNat 32) (along_at n p _ h)))
  unfold Host.sort2
  rw [dif_pos h]
  rfl

/-- The three largest entries of a table, and their positions as words. -/
theorem top_three (x : FVec Ideal S256x4096 .f32) (G : Fin 4096 → EReal) (n : Fin 256) (hx : ∀ p, (x (ix2 n p) : EReal) = G p)
    (hG : ∀ q, 0 ≤ G q) (k : Fin 3) :
    ((Host.topK S256x3 1 (FloatOps.cmpfTotal .gt) x sliceFits_S256x4096_S256x3).1 (ix2 n k) : EReal) = G (sel G k.val)
    ∧ (Host.topK S256x3 1 (FloatOps.cmpfTotal .gt) x sliceFits_S256x4096_S256x3).2 (ix2 n k) = BitVec.ofNat 32 (sel G k.val).val := by
  have hs : order x n (k.castLE (by omega)) = sel G k.val := by
    rw [← sortedFrom_sel hG (by omega) k]
    unfold order
    congr 1
    funext p q
    exact (gt_bit _ _).trans (by rw [hx, hx])
  constructor
  · rw [← hx, ← hs]
    unfold Host.topK
    pointwise
    exact sorted_scores x n _
  · rw [← hs]
    unfold Host.topK
    pointwise
    exact sorted_positions x n _

/-! ## Reading points -/

/-- A point gathered at an index word that is in range. -/
theorem take_gather (x : FVec Ideal S256x64x3 .f32) (J : IVec S256x3x1 32) (n : Fin 256) (k d : Fin 3) (r : Fin 64)
    (hJ : J (ix3 n k 0) = BitVec.ofNat 32 r.val) :
    Host.gather gather_S256x64x3_S256x3x1_S256x3x3_2_1_0_0_1_2_113 x J (ix3 n k d) = x (ix3 n r d) := by
  unfold Host.gather
  congr 1
  funext a
  refine Fin.ext ?_
  show GatherDims.start _ _ _ a + GatherDims.batchCoord _ _ a + GatherDims.offCoord _ _ a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S256x64x3_S256x3x1_S256x3x3_2_1_0_0_1_2_113.operandBatchingDims from List.mem_singleton.mpr rfl)]
    rfl
  · rw [GatherDims.batchCoord_eq_zero _ _ _ (fun h => by simp [gather_S256x64x3_S256x3x1_S256x3x3_2_1_0_0_1_2_113] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S256x64x3_S256x3x1_S256x3x3_2_1_0_0_1_2_113.startIndexMap from List.mem_singleton.mpr rfl)]
    have hsi : gather_S256x64x3_S256x3x1_S256x3x3_2_1_0_0_1_2_113.siIdx (ix3 n k d) ⟨List.idxOf (1 : Fin 3) gather_S256x64x3_S256x3x1_S256x3x3_2_1_0_0_1_2_113.startIndexMap,
        List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi, hJ]
    show min (BitVec.ofNat 32 r.val).toInt.toNat 63 = r.val
    clear hsi hJ
    revert r
    decide +kernel
  · rw [GatherDims.batchCoord_eq_zero _ _ _ (fun h => by simp [gather_S256x64x3_S256x3x1_S256x3x3_2_1_0_0_1_2_113] at h)]
    unfold GatherDims.start
    rw [dif_neg (show ¬ (2 : Fin 3) ∈ gather_S256x64x3_S256x3x1_S256x3x3_2_1_0_0_1_2_113.startIndexMap from by decide)]
    simp only [Nat.zero_add]
    rfl

theorem in_range : ∀ r : Fin 64, IntOp.andi
    (IntOp.andi
      (IntOp.cmpi CmpIPredicate.sge
        (Scalar.select (IntOp.cmpi CmpIPredicate.slt (BitVec.ofNat 32 r.val) 0#32)
          (IntOp.addi (BitVec.ofNat 32 r.val) 64#32) (BitVec.ofNat 32 r.val))
        0#32)
      (IntOp.cmpi CmpIPredicate.sle
        (Scalar.select (IntOp.cmpi CmpIPredicate.slt (BitVec.ofNat 32 r.val) 0#32)
          (IntOp.addi (BitVec.ofNat 32 r.val) 64#32) (BitVec.ofNat 32 r.val))
        63#32)) 1#1 = 1#1 := by decide +kernel
theorem kept_word : ∀ r : Fin 64, Scalar.select (IntOp.cmpi CmpIPredicate.slt (BitVec.ofNat 32 r.val) 0#32)
          (IntOp.addi (BitVec.ofNat 32 r.val) 64#32) (BitVec.ofNat 32 r.val) = BitVec.ofNat 32 r.val := by decide +kernel
theorem fold_one (f : Fin 1 → BitVec 1) : Finset.univ.fold IntOp.andi 1#1 f = IntOp.andi (f 0) 1#1 := by
  rw [Fin.univ_succ]; simp

variable (V : Valuation τ sig (Elt Ideal))

/-- The row of a flat position is the floor of its quotient. -/
theorem div_entry (n : Fin 256) (k : Fin 3) (p : Fin 4096) (hI : atW (V (Proc.devRef .tc main_indices)) n k = BitVec.ofNat 32 p.val)
    (hc : (V (Proc.devRef .tc main_c_12) : IVec S_ 32) = constantI S_ 32 64#32) :
    atW (after hostOps0_10 V (Proc.devRef .tc main_v77)) n k = BitVec.ofNat 32 (row p).val := by
  unfold atW at *
  simp only [hostOps0_10]
  after_results
  simp only [StableHlo.TRef.ofBuf_toBuf, StableHlo.TRef.ofBuf, StableHlo.TRef.toBuf, cast_eq, id]
  rw [hc]
  pointwise
  rw [hI]
  clear hI
  revert p
  decide +kernel
/-- The column of a flat position is its remainder. -/
theorem rem_entry (n : Fin 256) (k : Fin 3) (p : Fin 4096) (hI : atW (V (Proc.devRef .tc main_indices)) n k = BitVec.ofNat 32 p.val)
    (hc : (V (Proc.devRef .tc main_c_13) : IVec S_ 32) = constantI S_ 32 64#32) :
    atW (after hostOps0_12 V (Proc.devRef .tc main_v78)) n k = BitVec.ofNat 32 (col p).val := by
  unfold atW at *
  simp only [hostOps0_12]
  after_results
  simp only [StableHlo.TRef.ofBuf_toBuf, StableHlo.TRef.ofBuf, StableHlo.TRef.toBuf, cast_eq, id]
  rw [hc]
  pointwise
  rw [hI]
  clear hI
  revert p
  decide +kernel
/-- The target points read at the rows. -/
theorem take_rows (n : Fin 256) (k d : Fin 3) (r : Fin 64)
    (hJ : (V (Proc.devRef .tc main_v79) : IVec S256x3x1 32) (ix3 n k 0) = BitVec.ofNat 32 r.val) :
    (after hostOps0_14 V (Proc.devRef .tc main_v80) : FVec Ideal S256x3x3 .f32) (ix3 n k d) = (V (Proc.devRef .tc main_arg1) : FVec Ideal S256x64x3 .f32) (ix3 n r d) := by
  simp only [hostOps0_14]
  after_results
  simp only [StableHlo.TRef.ofBuf_toBuf, StableHlo.TRef.ofBuf, StableHlo.TRef.toBuf, cast_eq, id]
  pointwise
  rw [fold_one, hJ, in_range r, take_gather _ _ n k d r ?_]
  · rfl
  · pointwise
    rw [hJ, kept_word]
/-- The source points read at the columns. -/
theorem take_cols (n : Fin 256) (k d : Fin 3) (r : Fin 64)
    (hJ : (V (Proc.devRef .tc main_v81) : IVec S256x3x1 32) (ix3 n k 0) = BitVec.ofNat 32 r.val) :
    (after hostOps0_16 V (Proc.devRef .tc main_v82) : FVec Ideal S256x3x3 .f32) (ix3 n k d) = (V (Proc.devRef .tc main_arg0) : FVec Ideal S256x64x3 .f32) (ix3 n r d) := by
  simp only [hostOps0_16]
  after_results
  simp only [StableHlo.TRef.ofBuf_toBuf, StableHlo.TRef.ofBuf, StableHlo.TRef.toBuf, cast_eq, id]
  pointwise
  rw [fold_one, hJ, in_range r, take_gather _ _ n k d r ?_]
  · rfl
  · pointwise
    rw [hJ, kept_word]

/-! ## The stretches after the loop -/

/-- The log assignments. -/
theorem post_ms (n : Fin 256) (i j : Fin 65) : at3 (after hostOps0_7 V (Proc.devRef .tc main_v67)) n i j
    = at3 (V (Proc.devRef .tc main_v30)) n i j + at2 (V (Proc.devRef .tc main_v58_4)) n i + at2 (V (Proc.devRef .tc main_v58_5)) n j
      - at1 (V (Proc.devRef .tc main_v43)) n := by
  unfold at3 at2 at1
  simp only [hostOps0_7]
  after_results
  pointwise

/-- The flat table of kept assignments. -/
theorem post_table (n : Fin 256) (p : Fin 4096) (out : Fin 65 → Fin 65 → EReal) (tm sm : Fin 64 → BitVec 1)
    (ho : ∀ i j, at3 (after hostOps0_7 V (Proc.devRef .tc main_v67)) n i j = out i j)
    (ht : ∀ i, (V (Proc.devRef .tc main_arg3) : IVec S256x64 1) (ix2 n i) = tm i)
    (hs : ∀ i, (V (Proc.devRef .tc main_arg2) : IVec S256x64 1) (ix2 n i) = sm i) :
    ((shapeCast S256x4096 (after hostOps0_8 (after hostOps0_7 V) (Proc.devRef .tc main_v75)) shapeCasts_S256x64x64_S256x4096 : FVec Ideal S256x4096 .f32) (ix2 n p) : EReal)
      = kept out tm sm (row p) (col p) := by
  have h1 := ho ⟨(row p).val, by omega⟩ ⟨(col p).val, by omega⟩
  rw [post_ms] at h1
  unfold at1 at2 at3 at h1
  simp only [hostOps0_8, hostOps0_7]
  after_results
  simp only [StableHlo.TRef.ofBuf_toBuf, StableHlo.TRef.ofBuf, StableHlo.TRef.toBuf, cast_eq, id]
  pointwise
  rw [select_big]
  unfold kept
  refine if_congr (and_congr ?_ ?_) ?_ rfl
  · exact Eq.to_iff (congrArg (· = 1#1) (ht (row p)))
  · exact Eq.to_iff (congrArg (· = 1#1) (hs (col p)))
  · exact congrArg Ideal.exp h1

end Cert.ReferenceIdeal.Rd
end
-- ==== Proof.RefFinal.lean ====
/-
  The reference's four results as functions of its arguments.
-/
module

public import proofs.«01_k».proof.Proof.RefPost

@[expose] public section

noncomputable section
open Idealize.ShloMosaic Idealize.ShloMosaic.TcCoe Idealize.SL.Sem Idealize.ShloMosaic.StableHlo
namespace Cert.ReferenceIdeal.Rd
open Cert.ReferenceIdeal Cert.ReferenceIdeal.Gen Cert.ReferenceIdeal.Value Cert.Ot

/-! ## What each stretch leaves alone -/

section
variable {F : FTy → Type} [FloatOps F]

/-- The references stretch 1 after the loop writes. -/
abbrev post7_W : List (Ref sig .tc) := [main_v59, main_v60, main_v61, main_v62, main_v63, main_v64, main_v65, main_v66, main_v67, main_v68, main_v69, main_v70, main_v71, main_v72, main_v73, main_v74, main_cst_11]
theorem post7_writes : (hostOps0_7 : List (HloOp τ sig (Elt F))).Forall fun op => op.writes ⊆ (post7_W.map (Proc.devRef (τ := τ) .tc)).toFinset :=
  StableHlo.forall_writes_sub_of_map rfl

/-- The references stretch 2 after the loop writes. -/
abbrev post8_W : List (Ref sig .tc) := [main_call5_v0, main_call5_v1, main_v75]
theorem post8_writes : (hostOps0_8 : List (HloOp τ sig (Elt F))).Forall fun op => op.writes ⊆ (post8_W.map (Proc.devRef (τ := τ) .tc)).toFinset :=
  StableHlo.forall_writes_sub_of_map rfl

/-- The references stretch 3 after the loop writes. -/
abbrev post9_W : List (Ref sig .tc) := [main_v76, main_values, main_indices, main_c_12]
theorem post9_writes : (hostOps0_9 : List (HloOp τ sig (Elt F))).Forall fun op => op.writes ⊆ (post9_W.map (Proc.devRef (τ := τ) .tc)).toFinset :=
  StableHlo.forall_writes_sub_of_map rfl

/-- The references stretch 4 after the loop writes. -/
abbrev post10_W : List (Ref sig .tc) := [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v77]
theorem post10_writes : (hostOps0_10 : List (HloOp τ sig (Elt F))).Forall fun op => op.writes ⊆ (post10_W.map (Proc.devRef (τ := τ) .tc)).toFinset :=
  StableHlo.forall_writes_sub_of_map rfl

/-- The references stretch 5 after the loop writes. -/
abbrev post11_W : List (Ref sig .tc) := [main_c_13]
theorem post11_writes : (hostOps0_11 : List (HloOp τ sig (Elt F))).Forall fun op => op.writes ⊆ (post11_W.map (Proc.devRef (τ := τ) .tc)).toFinset :=
  StableHlo.forall_writes_sub_of_map rfl

/-- The references stretch 6 after the loop writes. -/
abbrev post12_W : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v78]
theorem post12_writes : (hostOps0_12 : List (HloOp τ sig (Elt F))).Forall fun op => op.writes ⊆ (post12_W.map (Proc.devRef (τ := τ) .tc)).toFinset :=
  StableHlo.forall_writes_sub_of_map rfl

/-- The references stretch 7 after the loop writes. -/
abbrev post13_W : List (Ref sig .tc) := [main_v79]
theorem post13_writes : (hostOps0_13 : List (HloOp τ sig (Elt F))).Forall fun op => op.writes ⊆ (post13_W.map (Proc.devRef (τ := τ) .tc)).toFinset :=
  StableHlo.forall_writes_sub_of_map rfl

/-- The references stretch 8 after the loop writes. -/
abbrev post14_W : List (Ref sig .tc) := [main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v80]
theorem post14_writes : (hostOps0_14 : List (HloOp τ sig (Elt F))).Forall fun op => op.writes ⊆ (post14_W.map (Proc.devRef (τ := τ) .tc)).toFinset :=
  StableHlo.forall_writes_sub_of_map rfl

/-- The references stretch 9 after the loop writes. -/
abbrev post15_W : List (Ref sig .tc) := [main_v81]
theorem post15_writes : (hostOps0_15 : List (HloOp τ sig (Elt F))).Forall fun op => op.writes ⊆ (post15_W.map (Proc.devRef (τ := τ) .tc)).toFinset :=
  StableHlo.forall_writes_sub_of_map rfl

/-- The references stretch 10 after the loop writes. -/
abbrev post16_W : List (Ref sig .tc) := [main_call9_c, main_call9_v0, main_call9_v1, main_call9_c_0, main_call9_v2, main_call9_v3, main_call9_v4, main_call9_c_1, main_call9_c_2, main_call9_v5, main_call9_v6, main_call9_v7, main_call9_v8, main_call9_v9, main_call9_v10, main_call9_c_3, main_call9_v11, main_call9_v12, main_call9_v13, main_call9_cst, main_call9_v14, main_v82]
theorem post16_writes : (hostOps0_16 : List (HloOp τ sig (Elt F))).Forall fun op => op.writes ⊆ (post16_W.map (Proc.devRef (τ := τ) .tc)).toFinset :=
  StableHlo.forall_writes_sub_of_map rfl

/-- A reference neither the condition nor the body writes keeps its contents through a trip. -/
theorem keep_trip (X : Valuation τ sig (Elt F)) (r : Ref sig .tc) (h : r ∉ condOps_W ++ while0Ops0_W ++ while0Ops0_1_W ++ while0Ops0_2_W ++ while0Ops0_3_W ++ while0Ops0_4_W) :
    afterL bodyI (after condOps X) (Proc.devRef .tc r) = X (Proc.devRef .tc r) := by
  simp only [List.mem_append, not_or] at h
  obtain ⟨⟨⟨⟨⟨hc, h0⟩, h1⟩, h2⟩, h3⟩, h4⟩ := h
  simp only [bodyI, afterL_cons, afterL_nil]
  rw [after_of_writes_sub _ _ while0Ops0_4_writes h4, after_of_writes_sub _ _ while0Ops0_3_writes h3, after_of_writes_sub _ _ while0Ops0_2_writes h2,
    after_of_writes_sub _ _ while0Ops0_1_writes h1, after_of_writes_sub _ _ while0Ops0_writes h0, after_of_writes_sub _ _ condOps_writes hc]

variable (m : (ℓ : Loc nD τ sig) → Buf (Elt F) ℓ) (c : Dev nD)

/-- What the stretches after the loop start from. -/
def leave : Valuation τ sig (Elt F) := after condOps (atK m 100 c)

/-- A reference the loop does not write keeps its contents through the loop. -/
theorem keep_loop (r : Ref sig .tc) (h : r ∉ condOps_W ++ while0Ops0_W ++ while0Ops0_1_W ++ while0Ops0_2_W ++ while0Ops0_3_W ++ while0Ops0_4_W) :
    leave m c (Proc.devRef .tc r) = entryContents preI m c (Proc.devRef .tc r) := by
  have hc : r ∉ condOps_W := by simp only [List.mem_append, not_or] at h; exact h.1.1.1.1.1
  unfold leave
  rw [after_of_writes_sub _ _ condOps_writes hc]
  generalize 100 = k
  induction k with
  | zero => rfl
  | succ k ih => exact (keep_trip _ r h).trans ih

/-- A reference nothing before the loop writes keeps what it was launched with. -/
theorem keep_pre (r : Ref sig .tc) (h : r ∉ hostOps0_W ++ hostOps0_1_W ++ hostOps0_2_W ++ hostOps0_3_W ++ hostOps0_4_W ++ hostOps0_5_W ++ hostOps0_6_W) :
    entryContents preI m c (Proc.devRef .tc r) = m ((c : Thread nD τ).loc r) := by
  simp only [List.mem_append, not_or] at h
  obtain ⟨⟨⟨⟨⟨⟨h0, h1⟩, h2⟩, h3⟩, h4⟩, h5⟩, h6⟩ := h
  simp only [entryContents, preI, afterL_cons, afterL_nil]
  rw [after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

/-- A reference nothing after the loop writes keeps its contents to the end. -/
theorem keep_post (X : Valuation τ sig (Elt F)) (r : Ref sig .tc)
    (h : r ∉ post7_W ++ post8_W ++ post9_W ++ post10_W ++ post11_W ++ post12_W ++ post13_W ++ post14_W ++ post15_W ++ post16_W) :
    afterL postI X (Proc.devRef .tc r) = X (Proc.devRef .tc r) := by
  simp only [List.mem_append, not_or] at h
  obtain ⟨⟨⟨⟨⟨⟨⟨⟨⟨h7, h8⟩, h9⟩, h10⟩, h11⟩, h12⟩, h13⟩, h14⟩, h15⟩, h16⟩ := h
  simp only [postI, afterL_cons, afterL_nil]
  rw [after_of_writes_sub _ _ post16_writes h16, after_of_writes_sub _ _ post15_writes h15, after_of_writes_sub _ _ post14_writes h14,
    after_of_writes_sub _ _ post13_writes h13, after_of_writes_sub _ _ post12_writes h12, after_of_writes_sub _ _ post11_writes h11,
    after_of_writes_sub _ _ post10_writes h10, after_of_writes_sub _ _ post9_writes h9, after_of_writes_sub _ _ post8_writes h8,
    after_of_writes_sub _ _ post7_writes h7]

/-! ## The loop's outcome -/

theorem leave_arg (r : Ref sig .tc) (h : r ∉ condOps_W ++ while0Ops0_W ++ while0Ops0_1_W ++ while0Ops0_2_W ++ while0Ops0_3_W ++ while0Ops0_4_W)
    (h' : r ∉ hostOps0_W ++ hostOps0_1_W ++ hostOps0_2_W ++ hostOps0_3_W ++ hostOps0_4_W ++ hostOps0_5_W ++ hostOps0_6_W) :
    leave m c (Proc.devRef .tc r) = m ((c : Thread nD τ).loc r) := (keep_loop m c r h).trans (keep_pre m c r h')

/-- An argument ends as it was launched. -/
theorem final_arg (r : Ref sig .tc)
    (h : r ∉ post7_W ++ post8_W ++ post9_W ++ post10_W ++ post11_W ++ post12_W ++ post13_W ++ post14_W ++ post15_W ++ post16_W)
    (h' : r ∉ condOps_W ++ while0Ops0_W ++ while0Ops0_1_W ++ while0Ops0_2_W ++ while0Ops0_3_W ++ while0Ops0_4_W)
    (h'' : r ∉ hostOps0_W ++ hostOps0_1_W ++ hostOps0_2_W ++ hostOps0_3_W ++ hostOps0_4_W ++ hostOps0_5_W ++ hostOps0_6_W) :
    finalContents condOps preI bodyI postI 100 m c (Proc.devRef .tc r) = m ((c : Thread nD τ).loc r) :=
  (keep_post (leave m c) r h).trans (leave_arg m c r h' h'')
end

variable (m : (ℓ : Loc nD τ sig) → Buf (Elt Ideal) ℓ) (c : Dev nD)

/-- The potentials after the hundred trips. -/
theorem leave_pots (n : Fin 256) :
    (∀ i, at2 (leave m c (Proc.devRef .tc main_v58_4)) n i = (pots hlse (padd (score (rargs m c) n) (rargs m c).al (Ideal.ofBits .f32 3351465984#32) ((rargs m c).tm n) ((rargs m c).sm n))
      (marg (nrm ((rargs m c).tm n) ((rargs m c).sm n)) ((rargs m c).sm n)) (marg (nrm ((rargs m c).tm n) ((rargs m c).sm n)) ((rargs m c).tm n)) 100).1 i)
    ∧ (∀ i, at2 (leave m c (Proc.devRef .tc main_v58_5)) n i = (pots hlse (padd (score (rargs m c) n) (rargs m c).al (Ideal.ofBits .f32 3351465984#32) ((rargs m c).tm n) ((rargs m c).sm n))
      (marg (nrm ((rargs m c).tm n) ((rargs m c).sm n)) ((rargs m c).sm n)) (marg (nrm ((rargs m c).tm n) ((rargs m c).sm n)) ((rargs m c).tm n)) 100).2 i) := by
  have ht := trips (entryContents preI m c) n _ _ _ (fun i j => (congrArg (fun x => at3 x n i j) (pre_copy m c)).trans (pre_pad m c n i j))
    (pre_mu m c n) (pre_nu m c n) (pre_u m c n) (pre_v m c n) 100
  have e4 : leave m c (Proc.devRef .tc main_v58_4) = (STEP^[100] (entryContents preI m c)) (Proc.devRef .tc main_v58_4) :=
    (cond_keeps _ main_v58_4 (by decide)).trans (atK_agree m c 100 main_v58_4 (by decide))
  have e5 : leave m c (Proc.devRef .tc main_v58_5) = (STEP^[100] (entryContents preI m c)) (Proc.devRef .tc main_v58_5) :=
    (cond_keeps _ main_v58_5 (by decide)).trans (atK_agree m c 100 main_v58_5 (by decide))
  rw [e4, e5]
  exact ⟨ht.2.2.2.1, ht.2.2.2.2⟩

/-- The log assignments. -/
theorem ms_entry (n : Fin 256) (i j : Fin 65) :
    at3 (after hostOps0_7 (leave m c) (Proc.devRef .tc main_v67)) n i j = logs hlse (rargs m c) n i j := by
  rw [post_ms, (leave_pots m c n).1, (leave_pots m c n).2, keep_loop m c main_v30 (by decide), keep_loop m c main_v43 (by decide), pre_pad, pre_norm]
  rfl

/-- The flat table of kept assignments. -/
theorem table_entry (n : Fin 256) (p : Fin 4096) :
    ((shapeCast S256x4096 (after hostOps0_8 (after hostOps0_7 (leave m c)) (Proc.devRef .tc main_v75)) shapeCasts_S256x64x64_S256x4096 : FVec Ideal S256x4096 .f32) (ix2 n p) : EReal)
      = table hlse (rargs m c) n p :=
  post_table (leave m c) n p _ _ _ (ms_entry m c n)
    (fun i => congrFun (leave_arg m c main_arg3 (by decide) (by decide)) (ix2 n i)) (fun i => congrFun (leave_arg m c main_arg2 (by decide) (by decide)) (ix2 n i))

/-- The state after the picks are made. -/
def picked : Valuation τ sig (Elt Ideal) := after hostOps0_9 (after hostOps0_8 (after hostOps0_7 (leave m c)))

/-- The three scores. -/
theorem scores_entry (n : Fin 256) (k : Fin 3) :
    (picked m c (Proc.devRef .tc main_values) : FVec Ideal S256x3 .f32) (ix2 n k) = table hlse (rargs m c) n (chosen hlse (rargs m c) n k) := by
  have h := (top_three (shapeCast S256x4096 (after hostOps0_8 (after hostOps0_7 (leave m c)) (Proc.devRef .tc main_v75)) shapeCasts_S256x64x64_S256x4096 : FVec Ideal S256x4096 .f32) (table hlse (rargs m c) n) n (table_entry m c n) (table_nonneg _ _ n) k).1
  unfold picked
  generalize after hostOps0_8 (after hostOps0_7 (leave m c)) = V at h ⊢
  simp only [hostOps0_9]
  after_results
  exact h

/-- Their positions. -/
theorem positions_entry (n : Fin 256) (k : Fin 3) :
    atW (picked m c (Proc.devRef .tc main_indices)) n k = BitVec.ofNat 32 (chosen hlse (rargs m c) n k).val := by
  have h := (top_three (shapeCast S256x4096 (after hostOps0_8 (after hostOps0_7 (leave m c)) (Proc.devRef .tc main_v75)) shapeCasts_S256x64x64_S256x4096 : FVec Ideal S256x4096 .f32) (table hlse (rargs m c) n) n (table_entry m c n) (table_nonneg _ _ n) k).2
  unfold atW picked
  generalize after hostOps0_8 (after hostOps0_7 (leave m c)) = V at h ⊢
  simp only [hostOps0_9]
  after_results
  exact h

theorem picked_c : (picked m c (Proc.devRef .tc main_c_12) : IVec S_ 32) = constantI S_ 32 64#32 := by
  unfold picked
  simp only [hostOps0_9]
  after_results

theorem picked_arg (r : Ref sig .tc) (h : r ∉ post7_W ++ post8_W ++ post9_W) : picked m c (Proc.devRef .tc r) = leave m c (Proc.devRef .tc r) := by
  simp only [List.mem_append, not_or] at h
  unfold picked
  rw [after_of_writes_sub _ _ post9_writes h.2, after_of_writes_sub _ _ post8_writes h.1.2, after_of_writes_sub _ _ post7_writes h.1.1]

/-- Reading a row of indices with a trailing axis of one. -/
theorem lift_rows (V : Valuation τ sig (Elt Ideal)) (n : Fin 256) (k : Fin 3) :
    (after hostOps0_13 V (Proc.devRef .tc main_v79) : IVec S256x3x1 32) (ix3 n k 0) = atW (V (Proc.devRef .tc main_v77)) n k := by
  unfold atW
  simp only [hostOps0_13]
  after_results
  pointwise
theorem lift_cols (V : Valuation τ sig (Elt Ideal)) (n : Fin 256) (k : Fin 3) :
    (after hostOps0_15 V (Proc.devRef .tc main_v81) : IVec S256x3x1 32) (ix3 n k 0) = atW (V (Proc.devRef .tc main_v78)) n k := by
  unfold atW
  simp only [hostOps0_15]
  after_results
  pointwise
theorem set_c (V : Valuation τ sig (Elt Ideal)) : (after hostOps0_11 V (Proc.devRef .tc main_c_13) : IVec S_ 32) = constantI S_ 32 64#32 := by
  simp only [hostOps0_11]
  after_results

/-! ## The results -/

theorem final_post (b : Ref sig .tc) : finalContents condOps preI bodyI postI 100 m c (Proc.devRef .tc b) =
    after hostOps0_16 (after hostOps0_15 (after hostOps0_14 (after hostOps0_13 (after hostOps0_12 (after hostOps0_11 (after hostOps0_10 (picked m c))))))) (Proc.devRef .tc b) := rfl

/-- The first result: the log assignments. -/
theorem final_ms (n : Fin 256) (i j : Fin 65) :
    (finalContents condOps preI bodyI postI 100 m c (Proc.devRef .tc main_v67) : FVec Ideal S256x65x65 .f32) (ix3 n i j) = logs hlse (rargs m c) n i j := by
  refine Eq.trans ?_ (ms_entry m c n i j)
  unfold at3
  rw [final_post, after_of_writes_sub _ _ post16_writes (by decide), after_of_writes_sub _ _ post15_writes (by decide), after_of_writes_sub _ _ post14_writes (by decide),
    after_of_writes_sub _ _ post13_writes (by decide), after_of_writes_sub _ _ post12_writes (by decide), after_of_writes_sub _ _ post11_writes (by decide),
    after_of_writes_sub _ _ post10_writes (by decide)]
  unfold picked
  rw [after_of_writes_sub _ _ post9_writes (by decide), after_of_writes_sub _ _ post8_writes (by decide)]

/-- The fourth result: the three scores. -/
theorem final_scores (n : Fin 256) (k : Fin 3) :
    (finalContents condOps preI bodyI postI 100 m c (Proc.devRef .tc main_values) : FVec Ideal S256x3 .f32) (ix2 n k) = table hlse (rargs m c) n (chosen hlse (rargs m c) n k) := by
  refine Eq.trans ?_ (scores_entry m c n k)
  rw [final_post, after_of_writes_sub _ _ post16_writes (by decide), after_of_writes_sub _ _ post15_writes (by decide), after_of_writes_sub _ _ post14_writes (by decide),
    after_of_writes_sub _ _ post13_writes (by decide), after_of_writes_sub _ _ post12_writes (by decide), after_of_writes_sub _ _ post11_writes (by decide),
    after_of_writes_sub _ _ post10_writes (by decide)]

/-- The second result: the target points of the picks. -/
theorem final_tgt (n : Fin 256) (k d : Fin 3) :
    (finalContents condOps preI bodyI postI 100 m c (Proc.devRef .tc main_v80) : FVec Ideal S256x3x3 .f32) (ix3 n k d)
      = (rargs m c).tp n (row (chosen hlse (rargs m c) n k)) d := by
  rw [final_post, after_of_writes_sub _ _ post16_writes (by decide), after_of_writes_sub _ _ post15_writes (by decide),
    take_rows _ n k d (row (chosen hlse (rargs m c) n k)) ?_]
  · rw [after_of_writes_sub _ _ post13_writes (by decide), after_of_writes_sub _ _ post12_writes (by decide), after_of_writes_sub _ _ post11_writes (by decide),
      after_of_writes_sub _ _ post10_writes (by decide), picked_arg m c main_arg1 (by decide), leave_arg m c main_arg1 (by decide) (by decide)]
    rfl
  · rw [lift_rows, after_of_writes_sub _ _ post12_writes (by decide), after_of_writes_sub _ _ post11_writes (by decide)]
    exact div_entry _ n k _ (positions_entry m c n k) (picked_c m c)

/-- The third result: the source points of the picks. -/
theorem final_src (n : Fin 256) (k d : Fin 3) :
    (finalContents condOps preI bodyI postI 100 m c (Proc.devRef .tc main_v82) : FVec Ideal S256x3x3 .f32) (ix3 n k d)
      = (rargs m c).sp n (col (chosen hlse (rargs m c) n k)) d := by
  rw [final_post, take_cols _ n k d (col (chosen hlse (rargs m c) n k)) ?_]
  · rw [after_of_writes_sub _ _ post15_writes (by decide), after_of_writes_sub _ _ post14_writes (by decide),
      after_of_writes_sub _ _ post13_writes (by decide), after_of_writes_sub _ _ post12_writes (by decide), after_of_writes_sub _ _ post11_writes (by decide),
      after_of_writes_sub _ _ post10_writes (by decide), picked_arg m c main_arg0 (by decide), leave_arg m c main_arg0 (by decide) (by decide)]
    rfl
  · rw [lift_cols, after_of_writes_sub _ _ post14_writes (by decide), after_of_writes_sub _ _ post13_writes (by decide)]
    refine rem_entry _ n k _ ?_ (set_c _)
    rw [after_of_writes_sub _ _ post11_writes (by decide), after_of_writes_sub _ _ post10_writes (by decide)]
    exact positions_entry m c n k

end Cert.ReferenceIdeal.Rd
end
-- ==== Proof.MBlock.lean ====
/-
  What the coarse matching's body leaves in its output block, as a function of its four input blocks.
-/
module

public import proofs.«01_k».proof.Proof.Gen.MatchingIdeal.Value
public import Idealize.ShloMosaic.Lib.Pipeline.Value
public import Idealize.ShloMosaic.Lib.Tactic

@[expose] public section

noncomputable section
open Idealize.ShloMosaic Idealize.ShloMosaic.TcCoe Idealize.SL.Sem
namespace Cert.MatchingIdeal.Blk
open Cert.MatchingIdeal Cert.MatchingIdeal.Gen
variable {F : FTy → Type} [FloatOps F]

theorem hz2 : (![0, 0] : Fin 2 → Nat) = fun _ => 0 := funext fun a => by fin_cases a <;> rfl

/-- The column positions of the table. -/
def colsB : IVec S512x512 32 := iota .tc S512x512 32 [1] iota_S512x512_d1_w32

/-- One round: the table with its pick struck out, and the picked position recorded. -/
def stepB (k : Fin k0_t1_loop.trips) (s : FVec F S512x512 .f32 × FVec F S1x256 .f32) : FVec F S512x512 .f32 × FVec F S1x256 .f32 :=
  (k0_pay5 k0_pay8 colsB s.1, k0_pay6 k0_pay8 colsB k s.1 s.2)

/-- The block of picked positions. -/
def outB (x0 x1 : Vec F S512x256 .f32) (x2 x3 : Vec F S512x1 .f32) : FVec F S1x256 .f32 :=
  (Scf.fold stepB (k0_pay7 x0 x1 x2 x3, k0_pay2)).2

/-- The body leaves the picked positions. -/
theorem out4 (c : Dev nD) (arg0 : Memref sig .tc .vmem S512x256 .f32) (harg0 : arg0.IsWhole) (arg1 : Memref sig .tc .vmem S512x256 .f32) (harg1 : arg1.IsWhole)
    (arg2 : Memref sig .tc .vmem S512x1 .f32) (harg2 : arg2.IsWhole) (arg3 : Memref sig .tc .vmem S512x1 .f32) (harg3 : arg3.IsWhole)
    (arg4 : Memref sig .tc .vmem S1x256 .f32) (harg4 : arg4.IsWhole) (x0 x1 : Vec F S512x256 .f32) (x2 x3 : Vec F S512x1 .f32) :
    out0_A_4 c arg0 harg0 arg1 harg1 arg2 harg2 arg3 harg3 arg4 harg4 x0 x1 x2 x3 = outB x0 x1 x2 x3 := by
  unfold out0_A_4
  rw [View.read_writes_eq_canon _ _ _ (cover0_A_4 c arg0 harg0 arg1 harg1 arg2 harg2 arg3 harg3 arg4 harg4 x0 x1 x2 x3)]
  unfold kernelRun0_A
  dsimp only
  sl_unfold_words
  rw [View.canon_unit_zero hz2]
  simp only [View.readAt_eq_ld, harg0.read_unread, harg1.read_unread, harg2.read_unread, harg3.read_unread, View.ld_unit_zero (S := S512x256) hz2, View.ld_unit_zero (S := S512x1) hz2]
  rfl

end Cert.MatchingIdeal.Blk
end
-- ==== Proof.MSpec.lean ====
/-
  The mathematics of the coarse matching: unit features of the nodes, the dual-normalised table of their similarities, and
  the positions its 256 rounds pick.
-/
module

public import proofs.«01_k».proof.Proof.Top

@[expose] public section

noncomputable section
open Idealize.ShloMosaic
namespace Cert.Mt
open Cert.Ot

/-- Row and column of a flat position, and back. -/
def row (p : Fin 262144) : Fin 512 := ⟨p.val / 512, by omega⟩
def col (p : Fin 262144) : Fin 512 := ⟨p.val % 512, by omega⟩
def flat (i j : Fin 512) : Fin 262144 := ⟨i.val * 512 + j.val, by omega⟩
theorem row_flat (i j : Fin 512) : row (flat i j) = i := Fin.ext (by simp only [row, flat]; omega)
theorem col_flat (i j : Fin 512) : col (flat i j) = j := Fin.ext (by simp only [col, flat]; omega)
theorem flat_row_col (p : Fin 262144) : flat (row p) (col p) = p := Fin.ext (by simp only [row, col, flat]; omega)

/-! ## Features -/

section
variable (x : Fin 512 → Fin 3 → EReal) (w : Fin 3 → Fin 256 → EReal) (v : Fin 256 → Fin 256 → EReal) (b : Fin 256 → EReal)

/-- A node's features before they are scaled. -/
def raw (i : Fin 512) (k : Fin 256) : EReal := (∑ e, (∑ d, x i d * w d e) * v e k) + b k

/-- What a node's features are divided by: their length, and a small number so that it is not zero. -/
def len (i : Fin 512) : EReal := Ideal.sqrt (∑ k, raw x w v b i k * raw x w v b i k) + Ideal.ofBits .f32 0x2B8CBCCC#32

/-- A node's features, scaled to length one. -/
def feat (i : Fin 512) (k : Fin 256) : EReal := Ideal.div (raw x w v b i k) (len x w v b i)
end

/-! ## The table -/

section
variable (a b : Fin 512 → Fin 256 → EReal)

/-- The similarity of two nodes: the exponential of minus their squared distance. -/
def sim (i j : Fin 512) : EReal := Ideal.exp (-max (Ideal.ofBits .f32 0x40000000#32 - Ideal.ofBits .f32 0x40000000#32 * ∑ k, a i k * b j k) 0)

/-- The similarity over its row's sum, times the same over its column's sum; zero off the masks. -/
def dual (tm sm : Fin 512 → BitVec 1) (i j : Fin 512) : EReal :=
  if tm i = 1#1 ∧ sm j = 1#1 then Ideal.div (sim a b i j) (∑ l, sim a b i l) * Ideal.div (sim a b i j) (∑ l, sim a b l j) else 0
end

/-! ## Finiteness and sign -/

theorem fi_bits_two : Fi (Ideal.ofBits .f32 0x40000000#32) := ⟨2, by simp [Ideal.ofBits, Ideal.ieee, -EReal.coe_mul]; norm_num⟩

theorem bits_small : ∃ r : ℝ, 0 < r ∧ Ideal.ofBits .f32 0x2B8CBCCC#32 = (r : EReal) := by
  refine ⟨_, ?_, by simp [Ideal.ofBits, Ideal.ieee, -EReal.coe_mul]; rfl⟩
  norm_num

/-- A finite number over a positive finite number is finite. -/
theorem fi_div {x y : EReal} (hx : Fi x) (hy : Fi y) (h : 0 < y) : Fi (Ideal.div x y) := by
  obtain ⟨r, rfl⟩ := hx
  obtain ⟨s, rfl⟩ := hy
  unfold Ideal.div
  rw [if_neg (ne_of_gt h), ← EReal.coe_inv, ← EReal.coe_mul]
  exact Fi.coe _

/-- A nonnegative number over a positive finite number is nonnegative. -/
theorem div_nonneg' {x y : EReal} (hx : 0 ≤ x) (hy : Fi y) (h : 0 < y) : 0 ≤ Ideal.div x y := by
  obtain ⟨s, rfl⟩ := hy
  unfold Ideal.div
  rw [if_neg (ne_of_gt h), ← EReal.coe_inv]
  refine mul_nonneg hx ?_
  have hs : 0 < s := by exact_mod_cast h
  exact_mod_cast (inv_pos.mpr hs).le

/-- The root of a nonnegative finite number is finite and nonnegative. -/
theorem fi_sqrt {x : EReal} (hx : Fi x) (h0 : 0 ≤ x) : Fi (Ideal.sqrt x) ∧ 0 ≤ Ideal.sqrt x := by
  obtain ⟨r, rfl⟩ := hx
  have hr : 0 ≤ r := by exact_mod_cast h0
  have e : Ideal.sqrt ((r : ℝ) : EReal) = (Real.sqrt r : EReal) := by
    show (if r < 0 then ⊥ else (Real.sqrt r : EReal)) = _
    rw [if_neg (not_lt.mpr hr)]
  rw [e]
  exact ⟨Fi.coe _, by exact_mod_cast Real.sqrt_nonneg r⟩

/-- A square is not negative, an infinity's either. -/
theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- What is not negative is finite or plus infinity. -/
theorem fi_or_top {x : EReal} (h : 0 ≤ x) : Fi x ∨ x = ⊤ := by
  induction x with
  | bot => exact absurd h (by decide)
  | top => exact Or.inr rfl
  | coe r => exact Or.inl (Fi.coe r)

/-- A number whose square is finite is finite. -/
theorem fi_of_sq {x : EReal} (h : x * x ≠ ⊤) : Fi x := by
  induction x with
  | bot => exact absurd EReal.bot_mul_bot h
  | top => exact absurd EReal.top_mul_top h
  | coe r => exact Fi.coe r

/-- Features are finite whatever the data: where one of a node's numbers is infinite, so is their length, and a quotient by it is zero. -/
theorem fi_feat (x : Fin 512 → Fin 3 → EReal) (w : Fin 3 → Fin 256 → EReal) (v : Fin 256 → Fin 256 → EReal) (b : Fin 256 → EReal) (i : Fin 512) (k : Fin 256) :
    Fi (feat x w v b i k) := by
  have h0 : 0 ≤ ∑ k, raw x w v b i k * raw x w v b i k := Finset.sum_nonneg fun k _ => sq_nonneg' _
  obtain ⟨c, hc, ec⟩ := bits_small
  have hc' : (0 : EReal) < (c : EReal) := by exact_mod_cast hc
  rcases fi_or_top h0 with hs | ht
  · obtain ⟨hq, hq0⟩ := fi_sqrt hs h0
    have hlen : Fi (len x w v b i) := by unfold len; rw [ec]; exact hq.add (Fi.coe c)
    have hpos : 0 < len x w v b i := by unfold len; rw [ec]; exact lt_of_lt_of_le hc' (le_add_of_nonneg_left hq0)
    refine fi_div (fi_of_sq fun h => ?_) hlen hpos
    have hk : raw x w v b i k * raw x w v b i k ≤ ∑ k, raw x w v b i k * raw x w v b i k :=
      Finset.single_le_sum (f := fun k => raw x w v b i k * raw x w v b i k) (fun k _ => sq_nonneg' _) (Finset.mem_univ k)
    rw [h, top_le_iff] at hk
    obtain ⟨r, hr⟩ := hs
    rw [hk] at hr
    exact absurd hr.symm (EReal.coe_ne_top r)
  · have hl : len x w v b i = ⊤ := by
      unfold len
      rw [ht, ec, show Ideal.sqrt ⊤ = ⊤ from rfl]
      exact EReal.top_add_coe c
    unfold feat Ideal.div
    rw [hl, if_neg (by decide), EReal.inv_top, mul_zero]
    exact Fi.zero

section
variable {a b : Fin 512 → Fin 256 → EReal} (ha : ∀ i k, Fi (a i k)) (hb : ∀ i k, Fi (b i k))
include ha hb

theorem fi_sim_arg (i j : Fin 512) :
    Fi (-max (Ideal.ofBits .f32 0x40000000#32 - Ideal.ofBits .f32 0x40000000#32 * ∑ k, a i k * b j k) 0) :=
  (((fi_bits_two.sub (fi_bits_two.mul (Fi.sum _ _ fun k => (ha i k).mul (hb j k)))).max Fi.zero)).neg
theorem fi_sim (i j : Fin 512) : Fi (sim a b i j) := (fi_sim_arg ha hb i j).exp
theorem sim_pos (i j : Fin 512) : 0 < sim a b i j := exp_pos_of_fi (fi_sim_arg ha hb i j)

/-- With finite features no entry of the table is negative. -/
theorem dual_nonneg (tm sm : Fin 512 → BitVec 1) (i j : Fin 512) : 0 ≤ dual a b tm sm i j := by
  unfold dual
  split_ifs
  · refine mul_nonneg (div_nonneg' (sim_pos ha hb i j).le (Fi.sum _ _ fun l => fi_sim ha hb i l) ?_)
      (div_nonneg' (sim_pos ha hb i j).le (Fi.sum _ _ fun l => fi_sim ha hb l j) ?_)
    · exact lt_of_lt_of_le (sim_pos ha hb i j)
        (Finset.single_le_sum (f := fun l => sim a b i l) (fun l _ => (sim_pos ha hb i l).le) (Finset.mem_univ j))
    · exact lt_of_lt_of_le (sim_pos ha hb i j)
        (Finset.single_le_sum (f := fun l => sim a b l j) (fun l _ => (sim_pos ha hb l j).le) (Finset.mem_univ i))
  · exact le_refl _
end

/-- The flat table. -/
def flatTab (T : Fin 512 → Fin 512 → EReal) (p : Fin 262144) : EReal := T (row p) (col p)

/-! ## The matching -/

/-- What the matching is computed from: the nodes of both clouds, their masks, the weights. -/
structure Args where
  sn : Fin 512 → Fin 3 → EReal
  tn : Fin 512 → Fin 3 → EReal
  sm : Fin 512 → BitVec 1
  tm : Fin 512 → BitVec 1
  w : Fin 3 → Fin 256 → EReal
  v : Fin 256 → Fin 256 → EReal
  b : Fin 256 → EReal

/-- The table of target nodes against source nodes. -/
def table (A : Args) : Fin 512 → Fin 512 → EReal := dual (feat A.tn A.w A.v A.b) (feat A.sn A.w A.v A.b) A.tm A.sm

/-- The flat position of the `k`-th pick. -/
def place (A : Args) (k : Fin 256) : Fin 262144 := sel (flatTab (table A)) k.val

/-- No entry of the table is negative. -/
theorem table_nonneg (A : Args) (p : Fin 262144) : 0 ≤ flatTab (table A) p :=
  dual_nonneg (fi_feat A.tn A.w A.v A.b) (fi_feat A.sn A.w A.v A.b) A.tm A.sm _ _

/-! ## Nested reductions -/

/-- The maximum over columns, then rows, is the picked entry. -/
theorem max_rows (T : Fin 512 → Fin 512 → EReal) :
    Finset.univ.fold max ⊥ (fun i => Finset.univ.fold max ⊥ fun j => T i j) = flatTab T (pick (flatTab T)) := by
  have h := (picks_pick (flatTab T)).1
  refine le_antisymm ?_ ?_
  · refine (Finset.fold_max_le _).mpr ⟨bot_le, fun i _ => (Finset.fold_max_le _).mpr ⟨bot_le, fun j _ => ?_⟩⟩
    have := h (flat i j)
    rwa [show flatTab T (flat i j) = T i j by unfold flatTab; rw [row_flat, col_flat]] at this
  · exact (Finset.le_fold_max _).mpr (Or.inr ⟨_, Finset.mem_univ _, (Finset.le_fold_max _).mpr (Or.inr ⟨_, Finset.mem_univ _, le_refl _⟩)⟩)

theorem le_far (p : Fin 262144) : (((p.val : ℕ) : ℝ) : EReal) ≤ ((300000000 : ℝ) : EReal) := by
  have h : ((p.val : ℕ) : ℝ) ≤ 300000000 := by
    have : p.val ≤ 300000000 := by omega
    exact_mod_cast this
  exact_mod_cast h

/-- The minimum over the flat positions of the largest entries is the picked position. -/
theorem min_rows (T : Fin 512 → Fin 512 → EReal) (M : EReal) (hM : M = flatTab T (pick (flatTab T))) :
    Finset.univ.fold min ⊤ (fun i => Finset.univ.fold min ⊤ fun j =>
        if T i j = M then (((i.val * 512 + j.val : ℕ) : ℝ) : EReal) else ((300000000 : ℝ) : EReal))
      = (((pick (flatTab T)).val : ℝ) : EReal) := by
  have h := (picks_pick (flatTab T)).2
  have hf := flat_row_col (pick (flatTab T))
  refine le_antisymm ?_ ?_
  · refine (Finset.fold_min_le _).mpr (Or.inr ⟨row (pick (flatTab T)), Finset.mem_univ _,
      (Finset.fold_min_le _).mpr (Or.inr ⟨col (pick (flatTab T)), Finset.mem_univ _, ?_⟩)⟩)
    rw [if_pos (show T (row (pick (flatTab T))) (col (pick (flatTab T))) = M from hM.symm)]
    have e := congrArg Fin.val hf
    simp only [flat] at e
    rw [e]
  · refine (Finset.le_fold_min _).mpr ⟨le_top, fun i _ => (Finset.le_fold_min _).mpr ⟨le_top, fun j _ => ?_⟩⟩
    by_cases hij : T i j = M
    · rw [if_pos hij]
      have := h (flat i j) (by show T (row (flat i j)) (col (flat i j)) = _; rw [row_flat, col_flat, hij, hM])
      have h2 : (pick (flatTab T)).val ≤ i.val * 512 + j.val := this
      have h3 : (((pick (flatTab T)).val : ℕ) : ℝ) ≤ ((i.val * 512 + j.val : ℕ) : ℝ) := by exact_mod_cast h2
      exact_mod_cast h3
    · rw [if_neg hij]; exact le_far _

/-! ## Positions as words -/

theorem toInt_small (n : ℕ) (h : n < 262144) : (BitVec.ofNat 32 n).toInt = n := by
  rw [BitVec.toInt_eq_toNat_cond, BitVec.toNat_ofNat, Nat.mod_eq_of_lt (by omega), if_pos (by omega)]

theorem flat_word (i j : Fin 512) : IntOp.addi (IntOp.muli (BitVec.ofNat 32 i.val) 512#32) (BitVec.ofNat 32 j.val) = BitVec.ofNat 32 (i.val * 512 + j.val) := by
  apply BitVec.eq_of_toNat_eq
  show (BitVec.ofNat 32 i.val * 512#32 + BitVec.ofNat 32 j.val).toNat = _
  rw [BitVec.toNat_add, BitVec.toNat_mul, BitVec.toNat_ofNat, BitVec.toNat_ofNat, BitVec.toNat_ofNat, BitVec.toNat_ofNat]
  omega

/-- Folding a step over the trips of a loop keeps what every trip keeps. -/
theorem foldl_keeps {α : Type} {n : ℕ} (f : Fin n → α → α) (P : ℕ → α → Prop) (h : ∀ (k : Fin n) (a : α), P k.val a → P (k.val + 1) (f k a))
    (s : α) (h0 : P 0 s) : P n ((List.finRange n).foldl (fun a k => f k a) s) := by
  induction n with
  | zero => simpa using h0
  | succ n ih =>
    rw [List.finRange_succ_last, List.foldl_append, List.foldl_map]
    exact h (Fin.last n) _ (ih (fun k a => f k.castSucc a) (fun k a hk => h k.castSucc a hk))

end Cert.Mt
end
-- ==== Proof.MRound.lean ====
/-
  The coarse matching's loop: a round strikes out the table's pick and records its flat position, so that after 256 rounds
  the block holds the first 256 picks.
-/
module

public import proofs.«01_k».proof.Proof.MBlock
public import proofs.«01_k».proof.Proof.MSpec
public import Idealize.ShloMosaic.Lib.Pointwise

@[expose] public section

noncomputable section
open Idealize.ShloMosaic Idealize.ShloMosaic.TcCoe Idealize.SL.Sem
namespace Cert.MatchingIdeal.Blk
open Cert.MatchingIdeal Cert.MatchingIdeal.Gen Cert.Ot Cert.Mt

theorem c_bot : Ideal.ofBits .f32 4286578688#32 = ⊥ := by simp [Ideal.ofBits, Ideal.ieee]
theorem c_top : Ideal.ofBits .f32 2139095040#32 = ⊤ := by simp [Ideal.ofBits, Ideal.ieee]
theorem c_far : Ideal.ofBits .f32 1301220632#32 = ((300000000 : ℝ) : EReal) := by
  simp [Ideal.ofBits, Ideal.ieee, -EReal.coe_mul]; norm_num
theorem c_negOne : Ideal.ofBits .f32 3212836864#32 = -1 := by
  rw [show (-1 : EReal) = ((-1 : ℝ) : EReal) by rw [EReal.coe_neg, EReal.coe_one]]
  simp [Ideal.ofBits, Ideal.ieee, -EReal.coe_mul, -EReal.coe_neg]; norm_num

/-- The flat positions. -/
theorem flat_entry (i j : Fin 512) : k0_pay1 (F := Ideal) k0_pay8 colsB (ix2 i j) = (((i.val * 512 + j.val : ℕ) : ℝ) : EReal) := by
  pointwise [k0_pay1, k0_pay8, colsB]
  show (((IntOp.addi (IntOp.muli (BitVec.ofNat 32 i.val) 512#32) (BitVec.ofNat 32 j.val)).toInt : ℝ) : EReal) = _
  rw [flat_word, toInt_small _ (by omega)]; norm_cast

/-- The entries of a table. -/
def ent (f : FVec Ideal S512x512 .f32) (i j : Fin 512) : EReal := f (ix2 i j)

variable (f : FVec Ideal S512x512 .f32)

theorem select_bit {α : Type} (c : Prop) [Decidable c] (x y : α) : Scalar.select (BitVec.ofBool (decide c)) x y = if c then x else y := by
  by_cases h : c
  · rw [decide_eq_true h, if_pos h]; rfl
  · rw [decide_eq_false h, if_neg h]; rfl
theorem and_bit (c d : Prop) [Decidable c] [Decidable d] :
    IntOp.andi (BitVec.ofBool (decide c)) (BitVec.ofBool (decide d)) = BitVec.ofBool (decide (c ∧ d)) := by
  by_cases h : c <;> by_cases h' : d <;> simp [h, h'] <;> rfl

/-- Which entries attain the maximum. -/
theorem round_max (i j : Fin 512) : k0_pay3 f (ix2 i j) = BitVec.ofBool (decide (ent f i j = flatTab (ent f) (pick (flatTab (ent f))))) := by
  rw [← max_rows]
  pointwise [k0_pay3]
  rw [c_bot]
  rfl

/-- The smallest flat position among them is the pick. -/
theorem round_position : k0_pay4 k0_pay8 colsB f (ix2 0 0) = (((pick (flatTab (ent f))).val : ℝ) : EReal) := by
  pointwise [k0_pay4]
  simp only [flat_entry, round_max, select_bit]
  rw [c_top, c_far]
  exact min_rows (ent f) _ rfl

/-- Striking out, entry by entry. -/
theorem strike_read (r : IVec S512x512 1) (p f : FVec Ideal S512x512 .f32) (q : FVec Ideal S1x1 .f32) (i j : Fin 512) :
    select (andi r (cmpf .oeq p (broadcastTo S512x512 q broadcasts_S1x1_S512x512))) (broadcast S512x512 (Scalar.ofBits (F := Ideal) .f32 0xBF800000#32)) f (ix2 i j)
      = Scalar.select (IntOp.andi (r (ix2 i j)) (BitVec.ofBool (decide (p (ix2 i j) = q (ix2 0 0))))) (Ideal.ofBits .f32 3212836864#32) (f (ix2 i j)) := by
  pointwise

theorem strike_open (v w : IVec S512x512 32) : k0_pay5 v w f
    = select (andi (k0_pay3 f) (cmpf .oeq (k0_pay1 (F := Ideal) v w) (broadcastTo S512x512 (k0_pay4 v w f) broadcasts_S1x1_S512x512)))
        (broadcast S512x512 (Scalar.ofBits (F := Ideal) .f32 0xBF800000#32)) f := rfl

/-- An entry after the pick has been struck out. -/
theorem strike_entry (i j : Fin 512) : ent (k0_pay5 k0_pay8 colsB f) i j
    = if Mt.flat i j = pick (flatTab (ent f)) then -1 else ent f i j := by
  show k0_pay5 k0_pay8 colsB f (ix2 i j) = _
  rw [strike_open, strike_read, flat_entry, round_max, round_position, and_bit, select_bit, c_negOne]
  refine if_congr ⟨fun h => Fin.ext ?_, fun h => ⟨?_, ?_⟩⟩ rfl rfl
  · have := h.2
    exact_mod_cast this
  · have e : flatTab (ent f) (Mt.flat i j) = ent f i j := by unfold flatTab; rw [Mt.row_flat, Mt.col_flat]
    rw [← h, e]
  · have := congrArg Fin.val h
    have e : i.val * 512 + j.val = (pick (flatTab (ent f))).val := this
    rw [e]

theorem round_strike : flatTab (ent (k0_pay5 k0_pay8 colsB f)) = strike (flatTab (ent f)) (pick (flatTab (ent f))) := by
  funext p
  show ent (k0_pay5 k0_pay8 colsB f) (Mt.row p) (Mt.col p) = _
  rw [strike_entry, Mt.flat_row_col]
  unfold strike
  by_cases h : p = pick (flatTab (ent f))
  · rw [if_pos h]
    exact (congrArg _ h).trans (Function.update_self _ _ _) |>.symm
  · rw [if_neg h]
    exact (Function.update_of_ne h (-1) (flatTab (ent f))).symm

theorem trip_word : ∀ t : Fin 256, Scf.iv 0#32 1#32 t.val = BitVec.ofNat 32 t.val := by decide +kernel
theorem eq_word (a b : Fin 256) : IntOp.cmpi CmpIPredicate.eq (BitVec.ofNat 32 a.val) (BitVec.ofNat 32 b.val) = BitVec.ofBool (decide (a.val = b.val)) := by
  have h : (BitVec.ofNat 32 a.val = BitVec.ofNat 32 b.val) ↔ a.val = b.val := by
    constructor
    · intro e
      have := congrArg BitVec.toNat e
      rw [BitVec.toNat_ofNat, BitVec.toNat_ofNat] at this
      omega
    · intro e; rw [e]
  show BitVec.ofBool (BitVec.ofNat 32 a.val == BitVec.ofNat 32 b.val) = _
  by_cases e : a.val = b.val
  · rw [decide_eq_true e, e]; simp
  · rw [decide_eq_false e, beq_eq_false_iff_ne.mpr fun e' => e (h.mp e')]

/-- A round records its pick at its own position. -/
theorem round_record (t : Fin 256) (g : FVec Ideal S1x256 .f32) (k : Fin 256) :
    k0_pay6 k0_pay8 colsB t f g (ix2 0 k) = if k.val = t.val then (((pick (flatTab (ent f))).val : ℝ) : EReal) else g (ix2 0 k) := by
  pointwise [k0_pay6]
  rw [round_position]
  have e := trip_word t
  rw [e, eq_word, select_bit]

/-- The table the rounds start from. -/
theorem first_entry {x0 x1 : Vec Ideal S512x256 .f32} {x2 x3 : Vec Ideal S512x1 .f32} {a b : Fin 512 → Fin 256 → EReal} {tm sm : Fin 512 → BitVec 1}
    (h0 : ∀ i k, x0 (ix2 i k) = a i k) (h1 : ∀ i k, x1 (ix2 i k) = b i k) (h2 : ∀ i, x2 (ix2 i 0) = ind (tm i)) (h3 : ∀ i, x3 (ix2 i 0) = ind (sm i)) (i j : Fin 512) :
    ent (k0_pay7 x0 x1 x2 x3) i j = dual a b tm sm i j := by
  unfold ent
  pointwise [k0_pay7]
  have hp : ∀ w, (0 < ind w) ↔ w = 1#1 := fun w => by
    unfold ind
    split_ifs with h
    · exact ⟨fun _ => h, fun _ => zero_lt_one⟩
    · exact ⟨fun e => absurd e (lt_irrefl _), fun e => absurd e h⟩
  simp only [h0, h1, h2, h3, hp, zero_sub]
  rw [and_bit, select_bit]
  rfl

/-- What the loop keeps after `n` rounds: the table struck out `n` times, the first `n` picks recorded. -/
structure Kept (G : Fin 262144 → EReal) (n : ℕ) (s : FVec Ideal S512x512 .f32 × FVec Ideal S1x256 .f32) : Prop where
  table : flatTab (ent s.1) = tab G n
  picks : ∀ k : Fin 256, k.val < n → s.2 (ix2 0 k) = (((sel G k.val).val : ℝ) : EReal)

/-- The block of picked positions. -/
theorem out_entry {x0 x1 : Vec Ideal S512x256 .f32} {x2 x3 : Vec Ideal S512x1 .f32} {a b : Fin 512 → Fin 256 → EReal} {tm sm : Fin 512 → BitVec 1}
    (h0 : ∀ i k, x0 (ix2 i k) = a i k) (h1 : ∀ i k, x1 (ix2 i k) = b i k) (h2 : ∀ i, x2 (ix2 i 0) = ind (tm i)) (h3 : ∀ i, x3 (ix2 i 0) = ind (sm i)) (k : Fin 256) :
    outB x0 x1 x2 x3 (ix2 0 k) = (((sel (flatTab (dual a b tm sm)) k.val).val : ℝ) : EReal) := by
  have e : ent (k0_pay7 x0 x1 x2 x3) = dual a b tm sm := funext fun i => funext fun j => first_entry h0 h1 h2 h3 i j
  unfold outB
  rw [Scf.fold_eq]
  have key := foldl_keeps (n := 256) (fun t s => stepB t s) (Kept (flatTab (dual a b tm sm))) (fun t s hs => ?_)
    (k0_pay7 x0 x1 x2 x3, k0_pay2) ⟨by rw [e]; rfl, fun k hk => absurd hk (Nat.not_lt_zero _)⟩
  · exact key.picks k k.isLt
  · refine ⟨?_, fun k hk => ?_⟩
    · show flatTab (ent (k0_pay5 k0_pay8 colsB s.1)) = _
      rw [round_strike, hs.table]; rfl
    · show k0_pay6 k0_pay8 colsB t s.1 s.2 (ix2 0 k) = _
      rw [round_record, hs.table]
      by_cases hkt : k.val = t.val
      · rw [if_pos hkt, hkt]; rfl
      · rw [if_neg hkt]; exact hs.picks k (by omega)

end Cert.MatchingIdeal.Blk
end
-- ==== Proof.MHost.lean ====
/-
  What the coarse matching's host prefix hands to the call: the nodes' unit features and the masks as zeros and ones.
-/
module

public import proofs.«01_k».proof.Proof.MRound
public import proofs.«01_k».proof.Proof.Gen.MatchingIdeal.Value

@[expose] public section

noncomputable section
open Idealize.ShloMosaic Idealize.ShloMosaic.TcCoe Idealize.SL.Sem
namespace Cert.MatchingIdeal.Blk
open Cert.MatchingIdeal Cert.MatchingIdeal.Gen Cert.Ot Cert.Mt
variable (m : (ℓ : Loc nD τ sig) → Buf (Elt Ideal) ℓ) (c : Dev nD)

/-- The nodes of a cloud: every 39th point. -/
def nodes (x : FVec Ideal S20000x3 .f32) : FVec Ideal S512x3 .f32 :=
  Host.gather gather_S20000x3_S512x1_S512x3_1_0_n_n_0_1_13 x
    (broadcastInDim S512x1 ![0] bcast_S512_S512x1_0
      (select
        (cmpi .slt (muli (iotaInDim S512 32 0) (broadcastInDim S512 ![] bcast_S_S512 (constantI S_ 32 39#32)))
          (broadcastInDim S512 ![] bcast_S_S512 (constantI S_ 32 0#32)))
        (addi (muli (iotaInDim S512 32 0) (broadcastInDim S512 ![] bcast_S_S512 (constantI S_ 32 39#32)))
          (broadcastInDim S512 ![] bcast_S_S512 (constantI S_ 32 20000#32)))
        (muli (iotaInDim S512 32 0) (broadcastInDim S512 ![] bcast_S_S512 (constantI S_ 32 39#32)))))

/-- A node is a point of the cloud. -/
theorem nodes_mem (x : FVec Ideal S20000x3 .f32) (i : Fin 512) (d : Fin 3) : ∃ j, nodes x (ix2 i d) = x j := ⟨_, rfl⟩

/-- The matching's arguments, as functions. -/
def args (x0 x1 : FVec Ideal S20000x3 .f32) (x2 x3 : IVec S512 1) (x4 : FVec Ideal S3x256 .f32) (x5 : FVec Ideal S256x256 .f32) (x6 : FVec Ideal S256 .f32) : Args where
  sn i d := nodes x0 (ix2 i d)
  tn i d := nodes x1 (ix2 i d)
  sm i := x2 (ix1 i)
  tm i := x3 (ix1 i)
  w d e := x4 (ix2 d e)
  v e k := x5 (ix2 e k)
  b k := x6 (ix1 k)

/-- The arguments a device is launched with. -/
def kargs : Args :=
  args (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The target nodes' features. -/
theorem host_tf (i : Fin 512) (k : Fin 256) :
    (V m c main_v36 : FVec Ideal S512x256 .f32) (ix2 i k) = feat (kargs m c).tn (kargs m c).w (kargs m c).v (kargs m c).b i k := by
  simp only [V, hostOps0, hostOps0_1, hostOps0_2, hostOps0_3, hostOps0_4, List.flatten_cons, List.flatten_nil, List.append_nil, List.cons_append, List.nil_append]
  after_results
  simp only [StableHlo.TRef.ofBuf_toBuf, StableHlo.TRef.ofBuf, StableHlo.TRef.toBuf, cast_eq, id]
  pointwise
  rfl

/-- The source nodes' features. -/
theorem host_sf (i : Fin 512) (k : Fin 256) :
    (V m c main_v27 : FVec Ideal S512x256 .f32) (ix2 i k) = feat (kargs m c).sn (kargs m c).w (kargs m c).v (kargs m c).b i k := by
  simp only [V, hostOps0, hostOps0_1, hostOps0_2, hostOps0_3, hostOps0_4, List.flatten_cons, List.flatten_nil, List.append_nil, List.cons_append, List.nil_append]
  after_results
  simp only [StableHlo.TRef.ofBuf_toBuf, StableHlo.TRef.ofBuf, StableHlo.TRef.toBuf, cast_eq, id]
  pointwise
  rfl

theorem uitofp_ind (w : BitVec 1) : (FloatOps.uitofp .f32 w : Ideal .f32) = ind w := by
  show ((w.toNat : ℝ) : EReal) = ind w
  unfold ind
  rcases BitVec.eq_zero_or_eq_one w with h | h
  · subst h; rw [if_neg (by decide)]; norm_num
  · subst h; rw [if_pos rfl]; norm_num

/-- The target nodes' masks. -/
theorem host_tm (i : Fin 512) : (V m c main_v38 : FVec Ideal S512x1 .f32) (ix2 i 0) = ind ((kargs m c).tm i) := by
  simp only [V, hostOps0, hostOps0_1, hostOps0_2, hostOps0_3, hostOps0_4, List.flatten_cons, List.flatten_nil, List.append_nil, List.cons_append, List.nil_append]
  after_results
  pointwise
  exact uitofp_ind _

/-- The source nodes' masks. -/
theorem host_sm (i : Fin 512) : (V m c main_v40 : FVec Ideal S512x1 .f32) (ix2 i 0) = ind ((kargs m c).sm i) := by
  simp only [V, hostOps0, hostOps0_1, hostOps0_2, hostOps0_3, hostOps0_4, List.flatten_cons, List.flatten_nil, List.append_nil, List.cons_append, List.nil_append]
  after_results
  pointwise
  exact uitofp_ind _

end Cert.MatchingIdeal.Blk
end
-- ==== Proof.MArray.lean ====
/-
  The coarse matching's result array: the picked positions.
-/
module

public import proofs.«01_k».proof.Proof.MHost
public import Idealize.ShloMosaic.Lib.Pipeline.ValueKit

@[expose] public section

set_option maxRecDepth 16384
noncomputable section
open Idealize.ShloMosaic Idealize.ShloMosaic.TcCoe Idealize.SL.Sem
namespace Cert.MatchingIdeal.Blk
open Cert.MatchingIdeal Cert.MatchingIdeal.Gen Cert.MatchingIdeal.Value Cert.Ot Cert.Mt
variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

theorem blk_tf (t : Fin cfg0.N) (i : Fin 512) (k : Fin 256) :
    (iblk m c 0 t : FVec Ideal S512x256 .f32) (ix2 i k) = feat (kargs m c).tn (kargs m c).w (kargs m c).v (kargs m c).b i k := by
  refine Eq.trans ?_ (host_tf m c i k)
  blk_simp [iblk]
  congr 1
  blk_ext [idx0 t]
theorem blk_sf (t : Fin cfg0.N) (i : Fin 512) (k : Fin 256) :
    (iblk m c 1 t : FVec Ideal S512x256 .f32) (ix2 i k) = feat (kargs m c).sn (kargs m c).w (kargs m c).v (kargs m c).b i k := by
  refine Eq.trans ?_ (host_sf m c i k)
  blk_simp [iblk]
  congr 1
  blk_ext [idx1 t]
theorem blk_tm (t : Fin cfg0.N) (i : Fin 512) : (iblk m c 2 t : FVec Ideal S512x1 .f32) (ix2 i 0) = ind ((kargs m c).tm i) := by
  refine Eq.trans ?_ (host_tm m c i)
  blk_simp [iblk]
  congr 1
  blk_ext [idx2 t]
theorem blk_sm (t : Fin cfg0.N) (i : Fin 512) : (iblk m c 3 t : FVec Ideal S512x1 .f32) (ix2 i 0) = ind ((kargs m c).sm i) := by
  refine Eq.trans ?_ (host_sm m c i)
  blk_simp [iblk]
  congr 1
  blk_ext [idx3 t]

/-- The array of picked positions. -/
def placesArr : FVec Ideal S1x256 .f32 := fun x => (((place (kargs m c) (x 1)).val : ℝ) : EReal)

/-- The positions a block picks. -/
theorem blk_places (t : Fin cfg0.N) (k : Fin 256) :
    outB (iblk m c 0 t) (iblk m c 1 t) (iblk m c 2 t) (iblk m c 3 t) (ix2 0 k) = placesArr m c (ix2 0 k) :=
  out_entry (blk_tf m c t) (blk_sf m c t) (blk_tm m c t) (blk_sm m c t) k

/-- The result array holds the picked positions. -/
theorem arr4 : (dats m 0 c).arrAt 4 cfg0.N = placesArr m c := by
  refine (dats m 0 c).arrAt_eq_of_covers 4 _ (by decide +kernel) fun t hf y => ?_
  blk_simp
  rw [after0_4]
  simp only [outsAt0]
  rw [out4]
  let k : Fin 256 := y 1
  have h0 : @Eq (Fin 1) (y 0) 0 := Subsingleton.elim _ _
  have ey : y = (ix2 0 k : Shape.Idx _) := by
    funext a; fin_cases a
    · exact h0
    · rfl
  have eg : (ix2 0 k : Shape.Idx _) = ((View.whole main_v41).slice (win0_4.rect t)).emb y := by
    refine (?_ : ((View.whole main_v41).slice (win0_4.rect t)).emb y = (ix2 0 k : Shape.Idx _)).symm
    rw [ey]
    blk_ext [idx4 t]
  exact (congrArg (outB (iblk m c 0 t) (iblk m c 1 t) (iblk m c 2 t) (iblk m c 3 t)) ey).trans ((blk_places m c t k).trans (congrArg (placesArr m c) eg))

end Cert.MatchingIdeal.Blk
end
-- ==== Proof.MRef.lean ====
/-
  What the coarse matching's reference computes: the same table, and the positions of its 256 largest entries.
-/
module

public import proofs.«01_k».proof.Proof.MHost
public import proofs.«01_k».proof.Proof.Gen.MatchingReferenceIdeal.Run
public import Idealize.ShloMosaic.Lib.SortPrefix

@[expose] public section

noncomputable section
open Idealize.ShloMosaic Idealize.ShloMosaic.TcCoe Idealize.SL.Sem Idealize.ShloMosaic.StableHlo
namespace Cert.MatchingReferenceIdeal.Rd
open Cert.MatchingReferenceIdeal Cert.MatchingReferenceIdeal.Gen Cert.MatchingReferenceIdeal.Value Cert.Ot Cert.Mt

/-! ## The largest entries -/

theorem gt_bit (a b : EReal) : (FloatOps.cmpfTotal (F := Ideal) (φ := .f32) .gt a b == 1#1) = decide (b < a) := by
  show (BitVec.ofBool (decide (a > b)) == 1#1) = decide (b < a)
  by_cases h : b < a
  · rw [show decide (a > b) = true from decide_eq_true h]; rfl
  · rw [show decide (a > b) = false from decide_eq_false h]; rfl

/-- Moving an index of the flat table along its only axis. -/
theorem along_ix1 (q p : Fin 262144) (h : 0 < S262144.rank) : Shape.Idx.along (s := S262144) (ix1 q) ⟨0, h⟩ p = ix1 p := by
  funext a
  match a with
  | ⟨0, _⟩ => rfl

theorem along_at (q p : Fin 262144) (h : 0 < S262144.rank) : ((Shape.Idx.along (s := S262144) (ix1 q) ⟨0, h⟩ p) 0).val = p.val := by
  rw [along_ix1]; rfl

/-- The order in which the sort puts the positions. -/
def order (x : FVec Ideal S262144 .f32) : Fin 262144 → Fin 262144 :=
  sortedFrom (fun a b => FloatOps.cmpfTotal .gt (x (ix1 a)) (x (ix1 b)) == 1#1)

theorem order_at (x : FVec Ideal S262144 .f32) (p : Fin 262144) (h : 0 < S262144.rank) :
    sortedFrom (n := 262144) (fun a b => FloatOps.cmpfTotal .gt (x (Shape.Idx.along (s := S262144) (ix1 p) ⟨0, h⟩ a)) (x (Shape.Idx.along (s := S262144) (ix1 p) ⟨0, h⟩ b)) == 1#1)
      = order x := by
  unfold order
  congr 1
  funext a b
  rw [along_ix1, along_ix1]

/-- The sorted positions. -/
theorem sorted_positions (x : FVec Ideal S262144 .f32) (p : Fin 262144) :
    (Host.sort2 S262144 0 (fun l r => FloatOps.cmpfTotal .gt l.1 r.1) x fun i => BitVec.ofNat 32 (i 0).val).2 (ix1 p)
      = BitVec.ofNat 32 (order x p).val := by
  have h : 0 < S262144.rank := by decide
  refine Eq.trans ?_ ((congrArg (fun o : Fin 262144 → Fin 262144 => BitVec.ofNat 32 ((Shape.Idx.along (s := S262144) (ix1 p) ⟨0, h⟩ (o p)) 0).val) (order_at x p h)).trans
    (congrArg (BitVec.ofNat 32) (along_at p _ h)))
  unfold Host.sort2
  rw [dif_pos h]
  rfl

/-- The positions of the 256 largest entries, as words. -/
theorem top_places (x : FVec Ideal S262144 .f32) (G : Fin 262144 → EReal) (hx : ∀ p, (x (ix1 p) : EReal) = G p) (hG : ∀ q, 0 ≤ G q) (k : Fin 256) :
    (Host.topK S256 0 (FloatOps.cmpfTotal .gt) x sliceFits_S262144_S256).2 (ix1 k) = BitVec.ofNat 32 (sel G k.val).val := by
  have hs : order x (k.castLE (by omega)) = sel G k.val := by
    rw [← sortedFrom_sel hG (by omega) k]
    unfold order
    congr 1
    funext p q
    exact (gt_bit _ _).trans (by rw [hx, hx])
  rw [← hs]
  unfold Host.topK
  pointwise
  exact sorted_positions x _

/-! ## The result -/

/-- An entry of the result is the picked word as a float. -/
theorem wrap (w : IVec S256 32) (k : Fin 256) :
    (broadcastInDim S1x256 ![1] bcast_S256_S1x256_1 (sitofp .f32 w : FVec Ideal S256 .f32)) (ix2 0 k) = FloatOps.sitofp .f32 (w (ix1 k)) := by
  pointwise

/-- Choosing by the two masks. -/
theorem mask_bits (u v : BitVec 1) (x : EReal) :
    Scalar.select (IntOp.andi u v) x (Ideal.ofBits .f32 0x00000000#32) = if u = 1#1 ∧ v = 1#1 then x else 0 := by
  have h0 : Ideal.ofBits .f32 0x00000000#32 = 0 := by simp [Ideal.ofBits, Ideal.ieee]
  rw [h0]
  rcases BitVec.eq_zero_or_eq_one u with h | h <;> rcases BitVec.eq_zero_or_eq_one v with h' | h' <;> subst h h'
  · rw [if_neg (by decide)]; rfl
  · rw [if_neg (by decide)]; rfl
  · rw [if_neg (by decide)]; rfl
  · rw [if_pos (by decide)]; rfl

variable (m : (ℓ : Loc nD τ sig) → Buf (Elt Ideal) ℓ) (c : Dev nD)

/-- The arguments the reference is launched with. -/
def rargs : Args :=
  Cert.MatchingIdeal.Blk.args (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The reference's result: the picked positions. -/
theorem res_places (k : Fin 256) :
    (res_main_v64 m c : FVec Ideal S1x256 .f32) (ix2 0 k) = (((place (rargs m c) k).val : ℝ) : EReal) := by
  unfold res_main_v64
  refine (wrap _ k).trans ?_
  refine (congrArg (FloatOps.sitofp .f32) (top_places _ (flatTab (table (rargs m c))) (fun p => ?_) (table_nonneg _) k)).trans ?_
  · pointwise
    exact mask_bits ((rargs m c).tm (Mt.row p)) ((rargs m c).sm (Mt.col p)) _
  · show (((BitVec.ofNat 32 (place (rargs m c) k).val).toInt : ℝ) : EReal) = _
    rw [toInt_small _ (place (rargs m c) k).isLt]
    norm_cast

end Cert.MatchingReferenceIdeal.Rd
end
-- ==== Proof.lean ====
/-
  The proof of `Cert.Claim`: the frames, the refinement of the printed kernel, and the equation between the kernel's and the
  reference's results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Reference
public import proofs.«01_k».proof.Proof.Gen.ReferenceIdeal.Run
public import proofs.«01_k».proof.Proof.Arrays
public import proofs.«01_k».proof.Proof.RefFinal
public import proofs.«01_k».proof.Proof.MArray
public import proofs.«01_k».proof.Proof.MRef
public import proofs.«01_k».proof.Proof.Gen.Matching
public import proofs.«01_k».proof.Proof.Gen.Matching.Skeleton
public import proofs.«01_k».proof.Proof.Gen.Matching.Loops
public import proofs.«01_k».proof.Proof.Gen.Matching.Launch
public import proofs.«01_k».proof.Proof.Gen.Matching.Points
public import proofs.«01_k».proof.Proof.Gen.Matching.Frame
public import proofs.«01_k».proof.Proof.Gen.MatchingIdeal
public import proofs.«01_k».proof.Proof.Gen.MatchingIdeal.Value
public import proofs.«01_k».proof.Proof.Gen.MatchingReferenceIdeal
public import proofs.«01_k».proof.Proof.Gen.MatchingReference
public import proofs.«01_k».proof.Proof.Gen.MatchingReferenceIdeal.Run
public import Idealize.ShloMosaic.Adequacy
public import Idealize.ShloMosaic.Init

@[expose] public section

noncomputable section

namespace Cert.Proof

open Idealize.ShloMosaic Idealize.ShloMosaic.TcCoe Idealize.SL.Sem

/-! ## The precondition -/

/-- A comparison bit that is set. -/
theorem lt_of_bit (a b : EReal) (h : FloatOps.cmpf (F := Ideal) (φ := .f32) .olt a b = 1#1) : a < b := by
  by_contra hn
  have h0 : FloatOps.cmpf (F := Ideal) (φ := .f32) .olt a b = 0#1 := by
    show BitVec.ofBool (decide (a < b)) = 0#1
    rw [show decide (a < b) = false from decide_eq_false hn]; rfl
  rw [h0] at h
  exact absurd h (by decide)

/-- An entry whose absolute value is below infinity is finite. -/
theorem fi_of_bit (x : EReal) (h : FloatOps.cmpf (F := Ideal) (φ := .f32) .olt (max x (-x)) (Ideal.ofBits .f32 2139095040#32) = 1#1) : Cert.Ot.Fi x := by
  have := lt_of_bit _ _ h
  rw [Cert.ReferenceIdeal.Rd.c_inf] at this
  exact Cert.Ot.fi_of_abs_lt this

theorem preFacts : Cert.Pre_finite_arguments.Facts := ⟨by decide, by decide, by decide, by decide⟩

/-- The precondition says that every float argument is finite. -/
theorem finite_of_pre (m : (ℓ : Loc Cert.KernelIdeal.nD Cert.KernelIdeal.τ Cert.KernelIdeal.sig) → Buf (Elt Ideal) ℓ)
    (h : Cert.Pre_KernelIdeal_finite_arguments (hPre_finite_arguments := preFacts) m) (c : Dev Cert.KernelIdeal.nD) :
    Cert.Ot.Finite (Cert.KernelIdeal.Blk.kargs m c) := by
  obtain ⟨h0, h1, h2, h3, h4, h5⟩ := h c
  exact ⟨fun n i d => fi_of_bit _ (congrFun h0 (ix3 n i d)), fun n i d => fi_of_bit _ (congrFun h1 (ix3 n i d)), fun d e => fi_of_bit _ (congrFun h2 (ix2 d e)),
    fun e k => fi_of_bit _ (congrFun h3 (ix2 e k)), fun k => fi_of_bit _ (congrFun h4 (ix1 k)), fi_of_bit _ (congrFun h5 ix0)⟩

/-! ## The reference's run -/

section Ref
open Cert.ReferenceIdeal Cert.ReferenceIdeal.Gen Cert.ReferenceIdeal.Value Cert.ReferenceIdeal.Rd

/-- Over any floats the reference ends with its arguments as they were and every counter at zero. -/
theorem ref_frame {F : FTy → Type} [FloatOps F] (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
        ∧ r.2.sem = fun _ => 0) :=
  (θ_run _ _ _).mono (fun r h => ⟨fun c => ⟨(h c main_arg0 rfl).trans (final_arg m c main_arg0 (by decide) (by decide) (by decide)),
    (h c main_arg1 rfl).trans (final_arg m c main_arg1 (by decide) (by decide) (by decide)),
    (h c main_arg2 rfl).trans (final_arg m c main_arg2 (by decide) (by decide) (by decide)),
    (h c main_arg3 rfl).trans (final_arg m c main_arg3 (by decide) (by decide) (by decide)),
    (h c main_arg4 rfl).trans (final_arg m c main_arg4 (by decide) (by decide) (by decide)),
    (h c main_arg5 rfl).trans (final_arg m c main_arg5 (by decide) (by decide) (by decide)),
    (h c main_arg6 rfl).trans (final_arg m c main_arg6 (by decide) (by decide) (by decide)),
    (h c main_arg7 rfl).trans (final_arg m c main_arg7 (by decide) (by decide) (by decide))⟩, sem_eq_zero_of_no_sems (by decide) r.2⟩) (run_fold m ρ)

/-- The reference's results. -/
theorem ref_values (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        (∀ n i j, (r.2.mem ((c.tc : Thread Cert.ReferenceIdeal.nD Cert.ReferenceIdeal.τ).loc Cert.ReferenceIdeal.main_v67) : FVec Ideal S256x65x65 .f32) (ix3 n i j) = Cert.Ot.logs Cert.Ot.hlse (rargs m c) n i j)
        ∧ (∀ n k d, (r.2.mem ((c.tc : Thread Cert.ReferenceIdeal.nD Cert.ReferenceIdeal.τ).loc Cert.ReferenceIdeal.main_v80) : FVec Ideal S256x3x3 .f32) (ix3 n k d) = (rargs m c).tp n (Cert.Ot.row (Cert.Ot.chosen Cert.Ot.hlse (rargs m c) n k)) d)
        ∧ (∀ n k d, (r.2.mem ((c.tc : Thread Cert.ReferenceIdeal.nD Cert.ReferenceIdeal.τ).loc Cert.ReferenceIdeal.main_v82) : FVec Ideal S256x3x3 .f32) (ix3 n k d) = (rargs m c).sp n (Cert.Ot.col (Cert.Ot.chosen Cert.Ot.hlse (rargs m c) n k)) d)
        ∧ (∀ n k, (r.2.mem ((c.tc : Thread Cert.ReferenceIdeal.nD Cert.ReferenceIdeal.τ).loc Cert.ReferenceIdeal.main_values) : FVec Ideal S256x3 .f32) (ix2 n k) = Cert.Ot.table Cert.Ot.hlse (rargs m c) n (Cert.Ot.chosen Cert.Ot.hlse (rargs m c) n k))) :=
  (θ_run _ _ _).mono (fun r h c => ⟨fun n i j => (congrFun (h c main_v67 rfl) (ix3 n i j)).trans (final_ms m c n i j),
    fun n k d => (congrFun (h c main_v80 rfl) (ix3 n k d)).trans (final_tgt m c n k d),
    fun n k d => (congrFun (h c main_v82 rfl) (ix3 n k d)).trans (final_src m c n k d),
    fun n k => (congrFun (h c main_values rfl) (ix2 n k)).trans (final_scores m c n k)⟩) (run_fold m ρ)

end Ref

/-! ## The equation -/

/-- Kernel and reference read the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) : Cert.ReferenceIdeal.Rd.rargs m' c = Cert.KernelIdeal.Blk.kargs m c := by
  obtain ⟨h0, h1, h2, h3, h4, h5, h6, h7⟩ := h
  simp only [Cert.ReferenceIdeal.Rd.rargs, Cert.KernelIdeal.Blk.kargs, Cert.Ot.Args.mk.injEq]
  exact ⟨funext fun n => funext fun i => funext fun d => congrFun h0 (ix3 n i d), funext fun n => funext fun i => funext fun d => congrFun h1 (ix3 n i d),
    funext fun n => funext fun i => congrFun h2 (ix2 n i), funext fun n => funext fun i => congrFun h3 (ix2 n i),
    funext fun d => funext fun e => congrFun h4 (ix2 d e), funext fun e => funext fun k => congrFun h5 (ix2 e k), funext fun k => congrFun h6 (ix1 k), congrFun h7 ix0⟩

/-- With finite arguments the kernel's four results are the reference's. -/
theorem algebraic : Cert.algebraic_KernelIdeal_ReferenceIdeal_pre_finite_arguments (hKernelIdeal := Cert.KernelIdeal.Gen.facts) (hReferenceIdeal := Cert.ReferenceIdeal.Gen.facts)
    (hPre_finite_arguments := preFacts) := by
  intro m g m' g' hp ha
  have hf := finite_of_pre m hp
  have he := fun c => args_eq m m' c (ha c)
  refine ⟨fun c => Cert.KernelIdeal.Blk.logsArr m c, fun c => Cert.KernelIdeal.Blk.tptsArr m c, fun c => Cert.KernelIdeal.Blk.sptsArr m c, fun c => Cert.KernelIdeal.Blk.scoresArr m c, ?_, ?_⟩
  · refine (θ_run _ _ _).mono (fun r h c => ?_) (Cert.KernelIdeal.Value.run_blocks m g)
    obtain ⟨r0, r1, r2, r3, hargs⟩ := h c
    exact ⟨r0.trans (Cert.KernelIdeal.Blk.arr6 m c), r2.trans (Cert.KernelIdeal.Blk.arr8 m c), r3.trans (Cert.KernelIdeal.Blk.arr9 m c), r1.trans (Cert.KernelIdeal.Blk.arr7 m c), hargs⟩
  · refine (θ_run _ _ _).mono (fun r h c => ?_) (θ_run_and (ref_values m' g') (ref_frame m' g'))
    obtain ⟨r0, r1, r2, r3⟩ := h.1 c
    rw [he c] at r0 r1 r2 r3
    simp only [Cert.Ot.logs_eq (hf c)] at r0
    simp only [Cert.Ot.chosen_eq (hf c)] at r1 r2
    simp only [Cert.Ot.chosen_eq (hf c), Cert.Ot.table_eq (hf c)] at r3
    refine ⟨?_, ?_, ?_, ?_, h.2.1 c⟩
    · funext x
      rw [eq_ix3 x]
      exact r0 _ _ _
    · funext x
      rw [eq_ix3 x]
      exact r1 _ _ _
    · funext x
      rw [eq_ix3 x]
      exact r2 _ _ _
    · funext x
      rw [eq_ix2 x]
      exact r3 _ _

/-! ## The matching -/

/-- Over any floats the matching's reference ends with its arguments as they were and every counter at zero. -/
theorem matching_ref_frame {F : FTy → Type} [FloatOps F] (m : (ℓ : Loc Cert.MatchingReferenceIdeal.nD Cert.MatchingReferenceIdeal.τ Cert.MatchingReferenceIdeal.sig) → Buf (Elt F) ℓ) (ρ : Dev Cert.MatchingReferenceIdeal.nD → PrngReg) :
    θ_run (Cert.MatchingReferenceIdeal.defs (F := F)) (onTc (τ := Cert.MatchingReferenceIdeal.τ) (Cert.MatchingReferenceIdeal.main (F := F))) ⟨m, fun _ => 0, ρ⟩
      (fun r => (∀ c : Dev Cert.MatchingReferenceIdeal.nD, r.2.mem ((c.tc : Thread Cert.MatchingReferenceIdeal.nD Cert.MatchingReferenceIdeal.τ).loc Cert.MatchingReferenceIdeal.main_arg0) = m ((c.tc : Thread Cert.MatchingReferenceIdeal.nD Cert.MatchingReferenceIdeal.τ).loc Cert.MatchingReferenceIdeal.main_arg0) ∧ r.2.mem ((c.tc : Thread Cert.MatchingReferenceIdeal.nD Cert.MatchingReferenceIdeal.τ).loc Cert.MatchingReferenceIdeal.main_arg1) = m ((c.tc : Thread Cert.MatchingReferenceIdeal.nD Cert.MatchingReferenceIdeal.τ).loc Cert.MatchingReferenceIdeal.main_arg1) ∧ r.2.mem ((c.tc : Thread Cert.MatchingReferenceIdeal.nD Cert.MatchingReferenceIdeal.τ).loc Cert.MatchingReferenceIdeal.main_arg2) = m ((c.tc : Thread Cert.MatchingReferenceIdeal.nD Cert.MatchingReferenceIdeal.τ).loc Cert.MatchingReferenceIdeal.main_arg2) ∧ r.2.mem ((c.tc : Thread Cert.MatchingReferenceIdeal.nD Cert.MatchingReferenceIdeal.τ).loc Cert.MatchingReferenceIdeal.main_arg3) = m ((c.tc : Thread Cert.MatchingReferenceIdeal.nD Cert.MatchingReferenceIdeal.τ).loc Cert.MatchingReferenceIdeal.main_arg3) ∧ r.2.mem ((c.tc : Thread Cert.MatchingReferenceIdeal.nD Cert.MatchingReferenceIdeal.τ).loc Cert.MatchingReferenceIdeal.main_arg4) = m ((c.tc : Thread Cert.MatchingReferenceIdeal.nD Cert.MatchingReferenceIdeal.τ).loc Cert.MatchingReferenceIdeal.main_arg4) ∧ r.2.mem ((c.tc : Thread Cert.MatchingReferenceIdeal.nD Cert.MatchingReferenceIdeal.τ).loc Cert.MatchingReferenceIdeal.main_arg5) = m ((c.tc : Thread Cert.MatchingReferenceIdeal.nD Cert.MatchingReferenceIdeal.τ).loc Cert.MatchingReferenceIdeal.main_arg5) ∧ r.2.mem ((c.tc : Thread Cert.MatchingReferenceIdeal.nD Cert.MatchingReferenceIdeal.τ).loc Cert.MatchingReferenceIdeal.main_arg6) = m ((c.tc : Thread Cert.MatchingReferenceIdeal.nD Cert.MatchingReferenceIdeal.τ).loc Cert.MatchingReferenceIdeal.main_arg6))
        ∧ r.2.sem = fun _ => 0) :=
  (θ_run _ _ _).mono (fun r h => ⟨fun c => (h c).2, sem_eq_zero_of_no_sems (by decide) r.2⟩) (Cert.MatchingReferenceIdeal.Value.run m ρ)

/-- Kernel and reference of the matching read the same arguments. -/
theorem matching_args_eq (m : (ℓ : Loc Cert.MatchingIdeal.nD Cert.MatchingIdeal.τ Cert.MatchingIdeal.sig) → Buf (Elt Ideal) ℓ)
    (m' : (ℓ : Loc Cert.MatchingReferenceIdeal.nD Cert.MatchingReferenceIdeal.τ Cert.MatchingReferenceIdeal.sig) → Buf (Elt Ideal) ℓ) (c : Dev Cert.MatchingIdeal.nD)
    (h : m' ((c.tc : Thread Cert.MatchingReferenceIdeal.nD Cert.MatchingReferenceIdeal.τ).loc Cert.MatchingReferenceIdeal.main_arg0) = m ((c.tc : Thread Cert.MatchingIdeal.nD Cert.MatchingIdeal.τ).loc Cert.MatchingIdeal.main_arg0) ∧ m' ((c.tc : Thread Cert.MatchingReferenceIdeal.nD Cert.MatchingReferenceIdeal.τ).loc Cert.MatchingReferenceIdeal.main_arg1) = m ((c.tc : Thread Cert.MatchingIdeal.nD Cert.MatchingIdeal.τ).loc Cert.MatchingIdeal.main_arg1) ∧ m' ((c.tc : Thread Cert.MatchingReferenceIdeal.nD Cert.MatchingReferenceIdeal.τ).loc Cert.MatchingReferenceIdeal.main_arg2) = m ((c.tc : Thread Cert.MatchingIdeal.nD Cert.MatchingIdeal.τ).loc Cert.MatchingIdeal.main_arg2) ∧ m' ((c.tc : Thread Cert.MatchingReferenceIdeal.nD Cert.MatchingReferenceIdeal.τ).loc Cert.MatchingReferenceIdeal.main_arg3) = m ((c.tc : Thread Cert.MatchingIdeal.nD Cert.MatchingIdeal.τ).loc Cert.MatchingIdeal.main_arg3) ∧ m' ((c.tc : Thread Cert.MatchingReferenceIdeal.nD Cert.MatchingReferenceIdeal.τ).loc Cert.MatchingReferenceIdeal.main_arg4) = m ((c.tc : Thread Cert.MatchingIdeal.nD Cert.MatchingIdeal.τ).loc Cert.MatchingIdeal.main_arg4) ∧ m' ((c.tc : Thread Cert.MatchingReferenceIdeal.nD Cert.MatchingReferenceIdeal.τ).loc Cert.MatchingReferenceIdeal.main_arg5) = m ((c.tc : Thread Cert.MatchingIdeal.nD Cert.MatchingIdeal.τ).loc Cert.MatchingIdeal.main_arg5) ∧ m' ((c.tc : Thread Cert.MatchingReferenceIdeal.nD Cert.MatchingReferenceIdeal.τ).loc Cert.MatchingReferenceIdeal.main_arg6) = m ((c.tc : Thread Cert.MatchingIdeal.nD Cert.MatchingIdeal.τ).loc Cert.MatchingIdeal.main_arg6)) : Cert.MatchingReferenceIdeal.Rd.rargs m' c = Cert.MatchingIdeal.Blk.kargs m c := by
  obtain ⟨h0, h1, h2, h3, h4, h5, h6⟩ := h
  unfold Cert.MatchingReferenceIdeal.Rd.rargs Cert.MatchingIdeal.Blk.kargs
  exact (congrArg (fun x => Cert.MatchingIdeal.Blk.args x _ _ _ _ _ _) h0).trans ((congrArg (fun x => Cert.MatchingIdeal.Blk.args _ x _ _ _ _ _) h1).trans
    ((congrArg (fun x => Cert.MatchingIdeal.Blk.args _ _ x _ _ _ _) h2).trans ((congrArg (fun x => Cert.MatchingIdeal.Blk.args _ _ _ x _ _ _) h3).trans
    ((congrArg (fun x => Cert.MatchingIdeal.Blk.args _ _ _ _ x _ _) h4).trans ((congrArg (fun x => Cert.MatchingIdeal.Blk.args _ _ _ _ _ x _) h5).trans
    (congrArg (fun x => Cert.MatchingIdeal.Blk.args _ _ _ _ _ _ x) h6))))))

/-- Whatever the arguments, the matching kernel's positions are the reference's. -/
theorem matching_algebraic : Cert.algebraic_MatchingIdeal_MatchingReferenceIdeal (hMatchingIdeal := Cert.MatchingIdeal.Gen.facts)
    (hMatchingReferenceIdeal := Cert.MatchingReferenceIdeal.Gen.facts) := by
  intro m g m' g' hp ha
  have he := fun c => matching_args_eq m m' c (ha c)
  refine ⟨fun c => Cert.MatchingIdeal.Blk.placesArr m c, ?_, ?_⟩
  · refine (θ_run _ _ _).mono (fun r h c => ?_) (Cert.MatchingIdeal.Value.run_blocks m g)
    exact ⟨(h c).1.trans (Cert.MatchingIdeal.Blk.arr4 m c), (h c).2⟩
  · refine (θ_run _ _ _).mono (fun r h c => ?_) (Cert.MatchingReferenceIdeal.Value.run m' g')
    refine ⟨(h c).1.trans ?_, (h c).2⟩
    have hr := Cert.MatchingReferenceIdeal.Rd.res_places m' c
    rw [he c] at hr
    funext x
    have h0 : @Eq (Fin 1) (x 0) 0 := Subsingleton.elim _ _
    have ex : x = (ix2 0 (x 1) : Shape.Idx _) := by
      funext a; fin_cases a
      · exact h0
      · rfl
    rw [ex]
    exact hr _

set_option maxHeartbeats 4000000 in
/-- The printed matching reference is the same program, read over floats. -/
theorem matching_ref_bits : Cert.quiescent_MatchingReference (hMatchingReference := Cert.MatchingReference.Gen.facts) :=
  fun m ρ _ => matching_ref_frame (F := Bits) m ρ

set_option maxHeartbeats 4000000 in
/-- The printed reference is the same program, read over floats. -/
theorem ref_bits : Cert.quiescent_Reference (hReference := Cert.Reference.Gen.facts) :=
  fun m ρ _ => ref_frame (F := Bits) m ρ

/-- Everything the certificate claims. The references as printed are the same programs as those over exact reals. -/
theorem claim : Cert.Claim := ⟨Cert.Kernel.Gen.facts, Cert.KernelIdeal.Gen.facts, Cert.Reference.Gen.facts, Cert.ReferenceIdeal.Gen.facts,
  Cert.Matching.Gen.facts, Cert.MatchingIdeal.Gen.facts, Cert.MatchingReference.Gen.facts, Cert.MatchingReferenceIdeal.Gen.facts, preFacts,
  fun m ρ _ => Cert.Kernel.Gen.frame m ρ, fun m ρ _ => Cert.KernelIdeal.Gen.frame m ρ, fun m ρ _ => Cert.KernelIdeal.Gen.frame m ρ,
  ref_bits, fun m ρ _ => ref_frame m ρ, fun m ρ _ => ref_frame m ρ,
  fun m ρ _ => Cert.Matching.Gen.frame m ρ, fun m ρ _ => Cert.MatchingIdeal.Gen.frame m ρ,
  matching_ref_bits, fun m ρ _ => matching_ref_frame m ρ, trivial, algebraic, trivial, matching_algebraic⟩

end Cert.Proof

end
